-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S128x4096 : Shape := ⟨2, ![128, 4096]⟩
abbrev S32 : Shape := ⟨1, ![32]⟩
abbrev S_ : Shape := ⟨0, ![]⟩
abbrev S1 : Shape := ⟨1, ![1]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .bf16⟩
  | .local _ .vmem, ⟨3, _⟩ => ⟨S128x4096, .bf16⟩
  | .local _ .vmem, ⟨4, _⟩ => ⟨S4096x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v10 : BitVec 32 := Scalar.addi v2 c1_i32_3
  let c32_i32_4 : BitVec 32 := 32#32
  let v11 : BitVec 32 := Scalar.remsi v10 c32_i32_4
  let c1_i32_6 : BitVec 32 := 1#32
  let v12 : BitVec 32 := Scalar.muli v11 c1_i32_6
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v14 : BitVec 32 := Scalar.addi v2 c2_i32
  let c32_i32_7 : BitVec 32 := 32#32
  let v15 : BitVec 32 := Scalar.remsi v14 c32_i32_7
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v18 : BitVec 32 := Scalar.addi v2 c3_i32
  let c32_i32_11 : BitVec 32 := 32#32
  let v19 : BitVec 32 := Scalar.remsi v18 c32_i32_11
  let c1_i32_13 : BitVec 32 := 1#32
  let v20 : BitVec 32 := Scalar.muli v19 c1_i32_13
  let v21 : BitVec 32 := Scalar.addi c0_i32_14 v20
  v21.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v22 : BitVec 32 := Scalar.addi v2 c4_i32
  let c32_i32_15 : BitVec 32 := 32#32
  let v23 : BitVec 32 := Scalar.remsi v22 c32_i32_15
  let c1_i32_17 : BitVec 32 := 1#32
  let v24 : BitVec 32 := Scalar.muli v23 c1_i32_17
  let v25 : BitVec 32 := Scalar.addi c0_i32_18 v24
  v25.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v26 : BitVec 32 := Scalar.addi v2 c5_i32
  let c32_i32_19 : BitVec 32 := 32#32
  let v27 : BitVec 32 := Scalar.remsi v26 c32_i32_19
  let c1_i32_21 : BitVec 32 := 1#32
  let v28 : BitVec 32 := Scalar.muli v27 c1_i32_21
  let v29 : BitVec 32 := Scalar.addi c0_i32_22 v28
  v29.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v30 : BitVec 32 := Scalar.addi v2 c6_i32
  let c32_i32_23 : BitVec 32 := 32#32
  let v31 : BitVec 32 := Scalar.remsi v30 c32_i32_23
  let c1_i32_25 : BitVec 32 := 1#32
  let v32 : BitVec 32 := Scalar.muli v31 c1_i32_25
  let v33 : BitVec 32 := Scalar.addi c0_i32_26 v32
  v33.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v34 : BitVec 32 := Scalar.addi v2 c7_i32
  let c32_i32_27 : BitVec 32 := 32#32
  let v35 : BitVec 32 := Scalar.remsi v34 c32_i32_27
  let c1_i32_29 : BitVec 32 := 1#32
  let v36 : BitVec 32 := Scalar.muli v35 c1_i32_29
  let v37 : BitVec 32 := Scalar.addi c0_i32_30 v36
  v37.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v38 : BitVec 32 := Scalar.addi v2 c8_i32
  let c32_i32_31 : BitVec 32 := 32#32
  let v39 : BitVec 32 := Scalar.remsi v38 c32_i32_31
  let c1_i32_33 : BitVec 32 := 1#32
  let v40 : BitVec 32 := Scalar.muli v39 c1_i32_33
  let v41 : BitVec 32 := Scalar.addi c0_i32_34 v40
  v41.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v42 : BitVec 32 := Scalar.addi v2 c9_i32
  let c32_i32_35 : BitVec 32 := 32#32
  let v43 : BitVec 32 := Scalar.remsi v42 c32_i32_35
  let c1_i32_37 : BitVec 32 := 1#32
  let v44 : BitVec 32 := Scalar.muli v43 c1_i32_37
  let v45 : BitVec 32 := Scalar.addi c0_i32_38 v44
  v45.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v46 : BitVec 32 := Scalar.addi v2 c10_i32
  let c32_i32_39 : BitVec 32 := 32#32
  let v47 : BitVec 32 := Scalar.remsi v46 c32_i32_39
  let c1_i32_41 : BitVec 32 := 1#32
  let v48 : BitVec 32 := Scalar.muli v47 c1_i32_41
  let v49 : BitVec 32 := Scalar.addi c0_i32_42 v48
  v49.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v50 : BitVec 32 := Scalar.addi v2 c11_i32
  let c32_i32_43 : BitVec 32 := 32#32
  let v51 : BitVec 32 := Scalar.remsi v50 c32_i32_43
  let c1_i32_45 : BitVec 32 := 1#32
  let v52 : BitVec 32 := Scalar.muli v51 c1_i32_45
  let v53 : BitVec 32 := Scalar.addi c0_i32_46 v52
  v53.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v54 : BitVec 32 := Scalar.addi v2 c12_i32
  let c32_i32_47 : BitVec 32 := 32#32
  let v55 : BitVec 32 := Scalar.remsi v54 c32_i32_47
  let c1_i32_49 : BitVec 32 := 1#32
  let v56 : BitVec 32 := Scalar.muli v55 c1_i32_49
  let v57 : BitVec 32 := Scalar.addi c0_i32_50 v56
  v57.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v58 : BitVec 32 := Scalar.addi v2 c13_i32
  let c32_i32_51 : BitVec 32 := 32#32
  let v59 : BitVec 32 := Scalar.remsi v58 c32_i32_51
  let c1_i32_53 : BitVec 32 := 1#32
  let v60 : BitVec 32 := Scalar.muli v59 c1_i32_53
  let v61 : BitVec 32 := Scalar.addi c0_i32_54 v60
  v61.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v62 : BitVec 32 := Scalar.addi v2 c14_i32
  let c32_i32_55 : BitVec 32 := 32#32
  let v63 : BitVec 32 := Scalar.remsi v62 c32_i32_55
  let c1_i32_57 : BitVec 32 := 1#32
  let v64 : BitVec 32 := Scalar.muli v63 c1_i32_57
  let v65 : BitVec 32 := Scalar.addi c0_i32_58 v64
  v65.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v66 : BitVec 32 := Scalar.addi v2 c15_i32
  let c32_i32_59 : BitVec 32 := 32#32
  let v67 : BitVec 32 := Scalar.remsi v66 c32_i32_59
  let c1_i32_61 : BitVec 32 := 1#32
  let v68 : BitVec 32 := Scalar.muli v67 c1_i32_61
  let v69 : BitVec 32 := Scalar.addi c0_i32_62 v68
  v69.toNat
def k0_dev16 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v70 : BitVec 32 := Scalar.addi v2 c16_i32
  let c32_i32_63 : BitVec 32 := 32#32
  let v71 : BitVec 32 := Scalar.remsi v70 c32_i32_63
  let c1_i32_65 : BitVec 32 := 1#32
  let v72 : BitVec 32 := Scalar.muli v71 c1_i32_65
  let v73 : BitVec 32 := Scalar.addi c0_i32_66 v72
  v73.toNat
def k0_dev17 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v74 : BitVec 32 := Scalar.addi v2 c17_i32
  let c32_i32_67 : BitVec 32 := 32#32
  let v75 : BitVec 32 := Scalar.remsi v74 c32_i32_67
  let c1_i32_69 : BitVec 32 := 1#32
  let v76 : BitVec 32 := Scalar.muli v75 c1_i32_69
  let v77 : BitVec 32 := Scalar.addi c0_i32_70 v76
  v77.toNat
def k0_dev18 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v78 : BitVec 32 := Scalar.addi v2 c18_i32
  let c32_i32_71 : BitVec 32 := 32#32
  let v79 : BitVec 32 := Scalar.remsi v78 c32_i32_71
  let c1_i32_73 : BitVec 32 := 1#32
  let v80 : BitVec 32 := Scalar.muli v79 c1_i32_73
  let v81 : BitVec 32 := Scalar.addi c0_i32_74 v80
  v81.toNat
def k0_dev19 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v82 : BitVec 32 := Scalar.addi v2 c19_i32
  let c32_i32_75 : BitVec 32 := 32#32
  let v83 : BitVec 32 := Scalar.remsi v82 c32_i32_75
  let c1_i32_77 : BitVec 32 := 1#32
  let v84 : BitVec 32 := Scalar.muli v83 c1_i32_77
  let v85 : BitVec 32 := Scalar.addi c0_i32_78 v84
  v85.toNat
def k0_dev20 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v86 : BitVec 32 := Scalar.addi v2 c20_i32
  let c32_i32_79 : BitVec 32 := 32#32
  let v87 : BitVec 32 := Scalar.remsi v86 c32_i32_79
  let c1_i32_81 : BitVec 32 := 1#32
  let v88 : BitVec 32 := Scalar.muli v87 c1_i32_81
  let v89 : BitVec 32 := Scalar.addi c0_i32_82 v88
  v89.toNat
def k0_dev21 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v90 : BitVec 32 := Scalar.addi v2 c21_i32
  let c32_i32_83 : BitVec 32 := 32#32
  let v91 : BitVec 32 := Scalar.remsi v90 c32_i32_83
  let c1_i32_85 : BitVec 32 := 1#32
  let v92 : BitVec 32 := Scalar.muli v91 c1_i32_85
  let v93 : BitVec 32 := Scalar.addi c0_i32_86 v92
  v93.toNat
def k0_dev22 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v94 : BitVec 32 := Scalar.addi v2 c22_i32
  let c32_i32_87 : BitVec 32 := 32#32
  let v95 : BitVec 32 := Scalar.remsi v94 c32_i32_87
  let c1_i32_89 : BitVec 32 := 1#32
  let v96 : BitVec 32 := Scalar.muli v95 c1_i32_89
  let v97 : BitVec 32 := Scalar.addi c0_i32_90 v96
  v97.toNat
def k0_dev23 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v98 : BitVec 32 := Scalar.addi v2 c23_i32
  let c32_i32_91 : BitVec 32 := 32#32
  let v99 : BitVec 32 := Scalar.remsi v98 c32_i32_91
  let c1_i32_93 : BitVec 32 := 1#32
  let v100 : BitVec 32 := Scalar.muli v99 c1_i32_93
  let v101 : BitVec 32 := Scalar.addi c0_i32_94 v100
  v101.toNat
def k0_dev24 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v102 : BitVec 32 := Scalar.addi v2 c24_i32
  let c32_i32_95 : BitVec 32 := 32#32
  let v103 : BitVec 32 := Scalar.remsi v102 c32_i32_95
  let c1_i32_97 : BitVec 32 := 1#32
  let v104 : BitVec 32 := Scalar.muli v103 c1_i32_97
  let v105 : BitVec 32 := Scalar.addi c0_i32_98 v104
  v105.toNat
def k0_dev25 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v106 : BitVec 32 := Scalar.addi v2 c25_i32
  let c32_i32_99 : BitVec 32 := 32#32
  let v107 : BitVec 32 := Scalar.remsi v106 c32_i32_99
  let c1_i32_101 : BitVec 32 := 1#32
  let v108 : BitVec 32 := Scalar.muli v107 c1_i32_101
  let v109 : BitVec 32 := Scalar.addi c0_i32_102 v108
  v109.toNat
def k0_dev26 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v110 : BitVec 32 := Scalar.addi v2 c26_i32
  let c32_i32_103 : BitVec 32 := 32#32
  let v111 : BitVec 32 := Scalar.remsi v110 c32_i32_103
  let c1_i32_105 : BitVec 32 := 1#32
  let v112 : BitVec 32 := Scalar.muli v111 c1_i32_105
  let v113 : BitVec 32 := Scalar.addi c0_i32_106 v112
  v113.toNat
def k0_dev27 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v114 : BitVec 32 := Scalar.addi v2 c27_i32
  let c32_i32_107 : BitVec 32 := 32#32
  let v115 : BitVec 32 := Scalar.remsi v114 c32_i32_107
  let c1_i32_109 : BitVec 32 := 1#32
  let v116 : BitVec 32 := Scalar.muli v115 c1_i32_109
  let v117 : BitVec 32 := Scalar.addi c0_i32_110 v116
  v117.toNat
def k0_dev28 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v118 : BitVec 32 := Scalar.addi v2 c28_i32
  let c32_i32_111 : BitVec 32 := 32#32
  let v119 : BitVec 32 := Scalar.remsi v118 c32_i32_111
  let c1_i32_113 : BitVec 32 := 1#32
  let v120 : BitVec 32 := Scalar.muli v119 c1_i32_113
  let v121 : BitVec 32 := Scalar.addi c0_i32_114 v120
  v121.toNat
def k0_dev29 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v122 : BitVec 32 := Scalar.addi v2 c29_i32
  let c32_i32_115 : BitVec 32 := 32#32
  let v123 : BitVec 32 := Scalar.remsi v122 c32_i32_115
  let c1_i32_117 : BitVec 32 := 1#32
  let v124 : BitVec 32 := Scalar.muli v123 c1_i32_117
  let v125 : BitVec 32 := Scalar.addi c0_i32_118 v124
  v125.toNat
def k0_dev30 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v126 : BitVec 32 := Scalar.addi v2 c30_i32
  let c32_i32_119 : BitVec 32 := 32#32
  let v127 : BitVec 32 := Scalar.remsi v126 c32_i32_119
  let c1_i32_121 : BitVec 32 := 1#32
  let v128 : BitVec 32 := Scalar.muli v127 c1_i32_121
  let v129 : BitVec 32 := Scalar.addi c0_i32_122 v128
  v129.toNat
def k0_dev31 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v130 : BitVec 32 := Scalar.addi v2 c31_i32
  let c32_i32_123 : BitVec 32 := 32#32
  let v131 : BitVec 32 := Scalar.remsi v130 c32_i32_123
  let c1_i32_125 : BitVec 32 := 1#32
  let v132 : BitVec 32 := Scalar.muli v131 c1_i32_125
  let v133 : BitVec 32 := Scalar.addi c0_i32_126 v132
  v133.toNat
def k0_off1 (d0 : Dev nD) (c0_i32_128 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c0_i32_128
  let c32_i32_129 : BitVec 32 := 32#32
  let v135 : BitVec 32 := Scalar.remsi v134 c32_i32_129
  ![v135.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_130 : BitVec 32 := 128#32
  let v137 : BitVec 32 := Scalar.muli v2 c128_i32_130
  ![0, v137.toNat]
def k0_off4 (d0 : Dev nD) (c0_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v134 : BitVec 32 := Scalar.addi v2 c0_i32_128
  let c32_i32_129 : BitVec 32 := 32#32
  let v135 : BitVec 32 := Scalar.remsi v134 c32_i32_129
  let c128_i32 : BitVec 32 := 128#32
  let v136 : BitVec 32 := Scalar.muli v135 c128_i32
  let c0_i32_134 : BitVec 32 := 0#32
  ![v136.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_128 : BitVec 32 := 0#32
  let v134 : BitVec 32 := Scalar.addi v2 c0_i32_128
  let c32_i32_129 : BitVec 32 := 32#32
  let v135 : BitVec 32 := Scalar.remsi v134 c32_i32_129
  let c1_i32_131 : BitVec 32 := 1#32
  let v138 : BitVec 32 := Scalar.muli v135 c1_i32_131
  let v139 : BitVec 32 := Scalar.addi c0_i32_132 v138
  v139.toNat
def k0_dev33 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_135 : BitVec 32 := 1#32
  let v146 : BitVec 32 := Scalar.addi v2 c1_i32_135
  let c32_i32_136 : BitVec 32 := 32#32
  let v147 : BitVec 32 := Scalar.remsi v146 c32_i32_136
  let c1_i32_139 : BitVec 32 := 1#32
  let v150 : BitVec 32 := Scalar.muli v147 c1_i32_139
  let v151 : BitVec 32 := Scalar.addi c0_i32_140 v150
  v151.toNat
def k0_dev34 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_143 : BitVec 32 := 2#32
  let v158 : BitVec 32 := Scalar.addi v2 c2_i32_143
  let c32_i32_144 : BitVec 32 := 32#32
  let v159 : BitVec 32 := Scalar.remsi v158 c32_i32_144
  let c1_i32_147 : BitVec 32 := 1#32
  let v162 : BitVec 32 := Scalar.muli v159 c1_i32_147
  let v163 : BitVec 32 := Scalar.addi c0_i32_148 v162
  v163.toNat
def k0_dev35 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_151 : BitVec 32 := 3#32
  let v170 : BitVec 32 := Scalar.addi v2 c3_i32_151
  let c32_i32_152 : BitVec 32 := 32#32
  let v171 : BitVec 32 := Scalar.remsi v170 c32_i32_152
  let c1_i32_155 : BitVec 32 := 1#32
  let v174 : BitVec 32 := Scalar.muli v171 c1_i32_155
  let v175 : BitVec 32 := Scalar.addi c0_i32_156 v174
  v175.toNat
def k0_dev36 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_159 : BitVec 32 := 4#32
  let v182 : BitVec 32 := Scalar.addi v2 c4_i32_159
  let c32_i32_160 : BitVec 32 := 32#32
  let v183 : BitVec 32 := Scalar.remsi v182 c32_i32_160
  let c1_i32_163 : BitVec 32 := 1#32
  let v186 : BitVec 32 := Scalar.muli v183 c1_i32_163
  let v187 : BitVec 32 := Scalar.addi c0_i32_164 v186
  v187.toNat
def k0_dev37 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v194 : BitVec 32 := Scalar.addi v2 c5_i32_167
  let c32_i32_168 : BitVec 32 := 32#32
  let v195 : BitVec 32 := Scalar.remsi v194 c32_i32_168
  let c1_i32_171 : BitVec 32 := 1#32
  let v198 : BitVec 32 := Scalar.muli v195 c1_i32_171
  let v199 : BitVec 32 := Scalar.addi c0_i32_172 v198
  v199.toNat
def k0_dev38 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_175 : BitVec 32 := 6#32
  let v206 : BitVec 32 := Scalar.addi v2 c6_i32_175
  let c32_i32_176 : BitVec 32 := 32#32
  let v207 : BitVec 32 := Scalar.remsi v206 c32_i32_176
  let c1_i32_179 : BitVec 32 := 1#32
  let v210 : BitVec 32 := Scalar.muli v207 c1_i32_179
  let v211 : BitVec 32 := Scalar.addi c0_i32_180 v210
  v211.toNat
def k0_dev39 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_183 : BitVec 32 := 7#32
  let v218 : BitVec 32 := Scalar.addi v2 c7_i32_183
  let c32_i32_184 : BitVec 32 := 32#32
  let v219 : BitVec 32 := Scalar.remsi v218 c32_i32_184
  let c1_i32_187 : BitVec 32 := 1#32
  let v222 : BitVec 32 := Scalar.muli v219 c1_i32_187
  let v223 : BitVec 32 := Scalar.addi c0_i32_188 v222
  v223.toNat
def k0_dev40 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_191 : BitVec 32 := 8#32
  let v230 : BitVec 32 := Scalar.addi v2 c8_i32_191
  let c32_i32_192 : BitVec 32 := 32#32
  let v231 : BitVec 32 := Scalar.remsi v230 c32_i32_192
  let c1_i32_195 : BitVec 32 := 1#32
  let v234 : BitVec 32 := Scalar.muli v231 c1_i32_195
  let v235 : BitVec 32 := Scalar.addi c0_i32_196 v234
  v235.toNat
def k0_dev41 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_199 : BitVec 32 := 9#32
  let v242 : BitVec 32 := Scalar.addi v2 c9_i32_199
  let c32_i32_200 : BitVec 32 := 32#32
  let v243 : BitVec 32 := Scalar.remsi v242 c32_i32_200
  let c1_i32_203 : BitVec 32 := 1#32
  let v246 : BitVec 32 := Scalar.muli v243 c1_i32_203
  let v247 : BitVec 32 := Scalar.addi c0_i32_204 v246
  v247.toNat
def k0_dev42 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_207 : BitVec 32 := 10#32
  let v254 : BitVec 32 := Scalar.addi v2 c10_i32_207
  let c32_i32_208 : BitVec 32 := 32#32
  let v255 : BitVec 32 := Scalar.remsi v254 c32_i32_208
  let c1_i32_211 : BitVec 32 := 1#32
  let v258 : BitVec 32 := Scalar.muli v255 c1_i32_211
  let v259 : BitVec 32 := Scalar.addi c0_i32_212 v258
  v259.toNat
def k0_dev43 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_215 : BitVec 32 := 11#32
  let v266 : BitVec 32 := Scalar.addi v2 c11_i32_215
  let c32_i32_216 : BitVec 32 := 32#32
  let v267 : BitVec 32 := Scalar.remsi v266 c32_i32_216
  let c1_i32_219 : BitVec 32 := 1#32
  let v270 : BitVec 32 := Scalar.muli v267 c1_i32_219
  let v271 : BitVec 32 := Scalar.addi c0_i32_220 v270
  v271.toNat
def k0_dev44 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_223 : BitVec 32 := 12#32
  let v278 : BitVec 32 := Scalar.addi v2 c12_i32_223
  let c32_i32_224 : BitVec 32 := 32#32
  let v279 : BitVec 32 := Scalar.remsi v278 c32_i32_224
  let c1_i32_227 : BitVec 32 := 1#32
  let v282 : BitVec 32 := Scalar.muli v279 c1_i32_227
  let v283 : BitVec 32 := Scalar.addi c0_i32_228 v282
  v283.toNat
def k0_dev45 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_231 : BitVec 32 := 13#32
  let v290 : BitVec 32 := Scalar.addi v2 c13_i32_231
  let c32_i32_232 : BitVec 32 := 32#32
  let v291 : BitVec 32 := Scalar.remsi v290 c32_i32_232
  let c1_i32_235 : BitVec 32 := 1#32
  let v294 : BitVec 32 := Scalar.muli v291 c1_i32_235
  let v295 : BitVec 32 := Scalar.addi c0_i32_236 v294
  v295.toNat
def k0_dev46 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_239 : BitVec 32 := 14#32
  let v302 : BitVec 32 := Scalar.addi v2 c14_i32_239
  let c32_i32_240 : BitVec 32 := 32#32
  let v303 : BitVec 32 := Scalar.remsi v302 c32_i32_240
  let c1_i32_243 : BitVec 32 := 1#32
  let v306 : BitVec 32 := Scalar.muli v303 c1_i32_243
  let v307 : BitVec 32 := Scalar.addi c0_i32_244 v306
  v307.toNat
def k0_dev47 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_247 : BitVec 32 := 15#32
  let v314 : BitVec 32 := Scalar.addi v2 c15_i32_247
  let c32_i32_248 : BitVec 32 := 32#32
  let v315 : BitVec 32 := Scalar.remsi v314 c32_i32_248
  let c1_i32_251 : BitVec 32 := 1#32
  let v318 : BitVec 32 := Scalar.muli v315 c1_i32_251
  let v319 : BitVec 32 := Scalar.addi c0_i32_252 v318
  v319.toNat
def k0_dev48 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_255 : BitVec 32 := 16#32
  let v326 : BitVec 32 := Scalar.addi v2 c16_i32_255
  let c32_i32_256 : BitVec 32 := 32#32
  let v327 : BitVec 32 := Scalar.remsi v326 c32_i32_256
  let c1_i32_259 : BitVec 32 := 1#32
  let v330 : BitVec 32 := Scalar.muli v327 c1_i32_259
  let v331 : BitVec 32 := Scalar.addi c0_i32_260 v330
  v331.toNat
def k0_dev49 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_263 : BitVec 32 := 17#32
  let v338 : BitVec 32 := Scalar.addi v2 c17_i32_263
  let c32_i32_264 : BitVec 32 := 32#32
  let v339 : BitVec 32 := Scalar.remsi v338 c32_i32_264
  let c1_i32_267 : BitVec 32 := 1#32
  let v342 : BitVec 32 := Scalar.muli v339 c1_i32_267
  let v343 : BitVec 32 := Scalar.addi c0_i32_268 v342
  v343.toNat
def k0_dev50 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_271 : BitVec 32 := 18#32
  let v350 : BitVec 32 := Scalar.addi v2 c18_i32_271
  let c32_i32_272 : BitVec 32 := 32#32
  let v351 : BitVec 32 := Scalar.remsi v350 c32_i32_272
  let c1_i32_275 : BitVec 32 := 1#32
  let v354 : BitVec 32 := Scalar.muli v351 c1_i32_275
  let v355 : BitVec 32 := Scalar.addi c0_i32_276 v354
  v355.toNat
def k0_dev51 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_279 : BitVec 32 := 19#32
  let v362 : BitVec 32 := Scalar.addi v2 c19_i32_279
  let c32_i32_280 : BitVec 32 := 32#32
  let v363 : BitVec 32 := Scalar.remsi v362 c32_i32_280
  let c1_i32_283 : BitVec 32 := 1#32
  let v366 : BitVec 32 := Scalar.muli v363 c1_i32_283
  let v367 : BitVec 32 := Scalar.addi c0_i32_284 v366
  v367.toNat
def k0_dev52 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_287 : BitVec 32 := 20#32
  let v374 : BitVec 32 := Scalar.addi v2 c20_i32_287
  let c32_i32_288 : BitVec 32 := 32#32
  let v375 : BitVec 32 := Scalar.remsi v374 c32_i32_288
  let c1_i32_291 : BitVec 32 := 1#32
  let v378 : BitVec 32 := Scalar.muli v375 c1_i32_291
  let v379 : BitVec 32 := Scalar.addi c0_i32_292 v378
  v379.toNat
def k0_dev53 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_295 : BitVec 32 := 21#32
  let v386 : BitVec 32 := Scalar.addi v2 c21_i32_295
  let c32_i32_296 : BitVec 32 := 32#32
  let v387 : BitVec 32 := Scalar.remsi v386 c32_i32_296
  let c1_i32_299 : BitVec 32 := 1#32
  let v390 : BitVec 32 := Scalar.muli v387 c1_i32_299
  let v391 : BitVec 32 := Scalar.addi c0_i32_300 v390
  v391.toNat
def k0_dev54 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_303 : BitVec 32 := 22#32
  let v398 : BitVec 32 := Scalar.addi v2 c22_i32_303
  let c32_i32_304 : BitVec 32 := 32#32
  let v399 : BitVec 32 := Scalar.remsi v398 c32_i32_304
  let c1_i32_307 : BitVec 32 := 1#32
  let v402 : BitVec 32 := Scalar.muli v399 c1_i32_307
  let v403 : BitVec 32 := Scalar.addi c0_i32_308 v402
  v403.toNat
def k0_dev55 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_311 : BitVec 32 := 23#32
  let v410 : BitVec 32 := Scalar.addi v2 c23_i32_311
  let c32_i32_312 : BitVec 32 := 32#32
  let v411 : BitVec 32 := Scalar.remsi v410 c32_i32_312
  let c1_i32_315 : BitVec 32 := 1#32
  let v414 : BitVec 32 := Scalar.muli v411 c1_i32_315
  let v415 : BitVec 32 := Scalar.addi c0_i32_316 v414
  v415.toNat
def k0_dev56 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_319 : BitVec 32 := 24#32
  let v422 : BitVec 32 := Scalar.addi v2 c24_i32_319
  let c32_i32_320 : BitVec 32 := 32#32
  let v423 : BitVec 32 := Scalar.remsi v422 c32_i32_320
  let c1_i32_323 : BitVec 32 := 1#32
  let v426 : BitVec 32 := Scalar.muli v423 c1_i32_323
  let v427 : BitVec 32 := Scalar.addi c0_i32_324 v426
  v427.toNat
def k0_dev57 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_327 : BitVec 32 := 25#32
  let v434 : BitVec 32 := Scalar.addi v2 c25_i32_327
  let c32_i32_328 : BitVec 32 := 32#32
  let v435 : BitVec 32 := Scalar.remsi v434 c32_i32_328
  let c1_i32_331 : BitVec 32 := 1#32
  let v438 : BitVec 32 := Scalar.muli v435 c1_i32_331
  let v439 : BitVec 32 := Scalar.addi c0_i32_332 v438
  v439.toNat
def k0_dev58 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_335 : BitVec 32 := 26#32
  let v446 : BitVec 32 := Scalar.addi v2 c26_i32_335
  let c32_i32_336 : BitVec 32 := 32#32
  let v447 : BitVec 32 := Scalar.remsi v446 c32_i32_336
  let c1_i32_339 : BitVec 32 := 1#32
  let v450 : BitVec 32 := Scalar.muli v447 c1_i32_339
  let v451 : BitVec 32 := Scalar.addi c0_i32_340 v450
  v451.toNat
def k0_dev59 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_343 : BitVec 32 := 27#32
  let v458 : BitVec 32 := Scalar.addi v2 c27_i32_343
  let c32_i32_344 : BitVec 32 := 32#32
  let v459 : BitVec 32 := Scalar.remsi v458 c32_i32_344
  let c1_i32_347 : BitVec 32 := 1#32
  let v462 : BitVec 32 := Scalar.muli v459 c1_i32_347
  let v463 : BitVec 32 := Scalar.addi c0_i32_348 v462
  v463.toNat
def k0_dev60 (d0 : Dev nD) : Nat :=
  let c0_i32_356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_351 : BitVec 32 := 28#32
  let v470 : BitVec 32 := Scalar.addi v2 c28_i32_351
  let c32_i32_352 : BitVec 32 := 32#32
  let v471 : BitVec 32 := Scalar.remsi v470 c32_i32_352
  let c1_i32_355 : BitVec 32 := 1#32
  let v474 : BitVec 32 := Scalar.muli v471 c1_i32_355
  let v475 : BitVec 32 := Scalar.addi c0_i32_356 v474
  v475.toNat
def k0_dev61 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_359 : BitVec 32 := 29#32
  let v482 : BitVec 32 := Scalar.addi v2 c29_i32_359
  let c32_i32_360 : BitVec 32 := 32#32
  let v483 : BitVec 32 := Scalar.remsi v482 c32_i32_360
  let c1_i32_363 : BitVec 32 := 1#32
  let v486 : BitVec 32 := Scalar.muli v483 c1_i32_363
  let v487 : BitVec 32 := Scalar.addi c0_i32_364 v486
  v487.toNat
def k0_dev62 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_367 : BitVec 32 := 30#32
  let v494 : BitVec 32 := Scalar.addi v2 c30_i32_367
  let c32_i32_368 : BitVec 32 := 32#32
  let v495 : BitVec 32 := Scalar.remsi v494 c32_i32_368
  let c1_i32_371 : BitVec 32 := 1#32
  let v498 : BitVec 32 := Scalar.muli v495 c1_i32_371
  let v499 : BitVec 32 := Scalar.addi c0_i32_372 v498
  v499.toNat
def k0_dev63 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_375 : BitVec 32 := 31#32
  let v506 : BitVec 32 := Scalar.addi v2 c31_i32_375
  let c32_i32_376 : BitVec 32 := 32#32
  let v507 : BitVec 32 := Scalar.remsi v506 c32_i32_376
  let c1_i32_379 : BitVec 32 := 1#32
  let v510 : BitVec 32 := Scalar.muli v507 c1_i32_379
  let v511 : BitVec 32 := Scalar.addi c0_i32_380 v510
  v511.toNat
def k0_off5 (d0 : Dev nD) (c0_i32_383 : BitVec 32) : Fin 2 → Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v518 : BitVec 32 := Scalar.addi v2 c0_i32_383
  let c32_i32_384 : BitVec 32 := 32#32
  let v519 : BitVec 32 := Scalar.remsi v518 c32_i32_384
  let c128_i32_385 : BitVec 32 := 128#32
  let v520 : BitVec 32 := Scalar.muli v519 c128_i32_385
  ![0, v520.toNat]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Mesh.lean ====
/-
  The vocabulary of the proof: the mesh of 32 devices as a rotation, the semaphores and blocks the kernel names, and
  the contents those blocks hold.

  Device `c` casts its `4096 × 128` columns of `x` to bf16 (`castOf c`), and sends rows `128·j …` of it to device `j`,
  which lays them in columns `128·c …` of its gather buffer. Once every block landed, device `c`'s gather buffer holds
  `gathered c`: rows `128·c …` of all of `x`, cast.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Ring
public import Idealize.ShloMosaic.Lib.ViewIndex
public import Idealize.ShloMosaic.Lib.ValueIdxCore
public import Idealize.ShloMosaic.Lib.Tactic

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resource algebra: the pipeline library's copy, and one of rounds whose duties are named by devices -/

/-- The ghost state of the mesh's rounds; -/
abbrev UB : Type := URounds (GSem nD τ sig) (Dev nD)
/-- the pipeline's beside it. -/
abbrev UU : Type := UR sig nD τ × UB

local notation "𝕄" => MT nD τ sig Unit (Elt F) ℕ UU ℕ

/-- The pipeline's ghost state within the whole, -/
abbrev EP : Emb (UR sig nD τ) (MT nD τ sig Unit (Elt F) ℕ UU ℕ) := embL
/-- and the mesh's. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device `k` places after `c`, around the mesh. -/
def sh (c : Dev nD) (k : ℕ) : Dev nD := ⟨(c.val + k) % 32, Nat.mod_lt _ (by decide)⟩

/-- The rotation as a number. -/
theorem sh_val (c : Dev nD) (k : ℕ) : (sh c k).val = (c.val + k) % 32 := rfl

/-- No rotation. -/
theorem sh_zero (c : Dev nD) : sh c 0 = c := Fin.ext (Nat.mod_eq_of_lt c.isLt)

/-- A device computed by the program, recognised by its number. -/
theorem eq_sh {n c : Dev nD} {k : ℕ} (h : n.val = (c.val + k) % 32) : n = sh c k := Fin.ext h

/-- A device with the number of `c` is `c` rotated by nothing. -/
theorem eq_sh_zero {n c : Dev nD} (h : n.val = c.val) : n = sh c 0 := (Fin.ext h).trans (sh_zero c).symm

/-- How far `d` is after `c`. -/
def gap (c d : Dev nD) : ℕ := (d.val + (32 - c.val)) % 32

/-- A distance is below 32. -/
theorem gap_lt (c d : Dev nD) : gap c d < 32 := Nat.mod_lt _ (by decide)

/-- Rotating by the distance arrives; -/
theorem sh_gap (c d : Dev nD) : sh c (gap c d) = d := by
  refine Fin.ext ?_
  have hc : c.val < 32 := c.isLt
  have hd : d.val < 32 := d.isLt
  simp only [sh_val, gap]; omega

/-- and the distance rotated is the distance. -/
theorem gap_sh (c : Dev nD) {k : ℕ} (hk : k < 32) : gap c (sh c k) = k := by
  have hc : c.val < 32 := c.isLt
  simp only [sh_val, gap]; omega

/-- Different distances, different devices. -/
theorem sh_inj (c : Dev nD) {k k' : ℕ} (hk : k < 32) (hk' : k' < 32) (h : sh c k = sh c k') : k = k' := by
  rw [← gap_sh c hk, h, gap_sh c hk']

/-- A distance of 1 to 31 leads to another device. -/
theorem sh_succ_ne (c : Dev nD) {k : ℕ} (hk : k < 31) : sh c (k + 1) ≠ c := fun h => by
  have := sh_inj c (by omega : k + 1 < 32) (by decide : 0 < 32) (h.trans (sh_zero c).symm)
  omega

/-! ## The buffers -/

/-- The staging buffer of `x`, -/
abbrev xM : Memref sig .tc .vmem S4096x128 .f32 := Memref.whole cc0_stg0_0
/-- that of the result, -/
abbrev oM : Memref sig .tc .vmem S128x2048 .f32 := Memref.whole cc0_stg1_0
/-- `w` in HBM, -/
abbrev hM : Memref sig .tc .hbm S4096x2048 .f32 := Memref.whole main_arg1
/-- the cast buffer, -/
abbrev bM : Memref sig .tc .vmem S4096x128 .bf16 := Memref.whole cc0_scratch0
/-- the gather buffer, -/
abbrev gM : Memref sig .tc .vmem S128x4096 .bf16 := Memref.whole cc0_scratch1
/-- the copy of `w`. -/
abbrev wM : Memref sig .tc .vmem S4096x2048 .f32 := Memref.whole cc0_scratch2

/-- A row block lies within the cast buffer, -/
theorem row_inb (j : Dev nD) : ∀ a, (![128 * j.val, 0] : Fin 2 → Nat) a + S128x128.size a ≤ S4096x128.size a := fun a => by
  have hj : j.val < 32 := j.isLt
  match a with
  | ⟨0, _⟩ => show 128 * j.val + 128 ≤ 4096; omega
  | ⟨1, _⟩ => show 0 + 128 ≤ 128; omega

/-- a slot within the gather buffer. -/
theorem col_inb (s : Dev nD) : ∀ a, (![0, 128 * s.val] : Fin 2 → Nat) a + S128x128.size a ≤ S128x4096.size a := fun a => by
  have hj : s.val < 32 := s.isLt
  match a with
  | ⟨0, _⟩ => show 0 + 128 ≤ 128; omega
  | ⟨1, _⟩ => show 128 * s.val + 128 ≤ 4096; omega

/-- Rows `128·j … 128·j + 127` of the cast buffer: what goes to device `j`. -/
abbrev rowM (j : Dev nD) : Memref sig .tc .vmem S128x128 .bf16 :=
  bM.slice (Rect.unit (s := S4096x128) ![128 * j.val, 0] S128x128.size (row_inb j)) (fun _ => rfl)

/-- Columns `128·s … 128·s + 127` of the gather buffer: where device `s`'s block lands. -/
abbrev colM (s : Dev nD) : Memref sig .tc .vmem S128x128 .bf16 :=
  gM.slice (Rect.unit (s := S128x4096) ![0, 128 * s.val] S128x128.size (col_inb s)) (fun _ => rfl)

/-- What one block's transfer adds to a semaphore; what the copy of `w` adds. -/
abbrev N : ℕ := (colM 0).view.dmaCredit
/-- The units that the copy of `w` pays. -/
abbrev NW : ℕ := wM.view.dmaCredit
/-- A block pays something, -/
theorem N_pos : 0 < N := View.dmaCredit_pos _ (by decide)
/-- and so does the copy of `w`. -/
theorem NW_pos : 0 < NW := View.dmaCredit_pos _ (by decide)

/-! ## The semaphores -/

/-- The barrier semaphore; -/
abbrev barS : Sem sig := (SemArray.scalar (sig.barrier 0 rfl) : Sems sig S_).sem
/-- the send semaphore for device `j`; -/
abbrev sendS (j : Dev nD) : DmaSem sig := ⟨2 + j.val, by have : j.val < 32 := j.isLt; show 2 + j.val < 67; omega⟩
/-- the receive semaphore for the block of device `s`; -/
abbrev recvS (s : Dev nD) : DmaSem sig := ⟨34 + s.val, by have : s.val < 32 := s.isLt; show 34 + s.val < 67; omega⟩
/-- the semaphore of the copy of `w`, -/
abbrev wS : DmaSem sig := (cc0_scratch5 : DmaSems sig S_).sem

/-- which is the last. -/
theorem wS_val : wS.val = 66 := by decide

/-- Send semaphores of different targets differ, -/
theorem sendS_inj {j j' : Dev nD} (h : sendS j = sendS j') : j = j' := Fin.ext (by have := congrArg Fin.val h; simp only at this; omega)
/-- as do receive semaphores of different senders. -/
theorem recvS_inj {j j' : Dev nD} (h : recvS j = recvS j') : j = j' := Fin.ext (by have := congrArg Fin.val h; simp only at this; omega)

/-- These semaphores on device `c`: the barrier, -/
abbrev barCell (c : Dev nD) : GSem nD τ sig := ((c : Thread nD τ), .reg barS)
/-- a send cell, -/
abbrev sendCell (c j : Dev nD) : GSem nD τ sig := ((c : Thread nD τ), .dma (sendS j))
/-- a receive cell, -/
abbrev recvCell (c s : Dev nD) : GSem nD τ sig := ((c : Thread nD τ), .dma (recvS s))
/-- the copy cell. -/
abbrev wCell (c : Dev nD) : GSem nD τ sig := ((c : Thread nD τ), .dma wS)

/-! ## What the program computes names these -/

/-- An entry of an array of 32 semaphores. -/
theorem inb1 (j : Dev nD) : ∀ a, (![j.val] : Fin 1 → Nat) a + S1.size a ≤ S32.size a := fun a => by
  have : j.val < 32 := j.isLt
  match a with
  | ⟨0, _⟩ => show j.val + 1 ≤ 32; omega

/-- Entry `j` of the send semaphores, -/
theorem send_at (j : Dev nD) :
    ((cc0_scratch3.slice (Rect.unit (s := S32) ![j.val] S1.size (inb1 j))).squeeze S_ squeezes_S1_S_).sem = sendS j := by
  revert j; decide +kernel

/-- entry `s` of the receive semaphores. -/
theorem recv_at (j : Dev nD) :
    ((cc0_scratch4.slice (Rect.unit (s := S32) ![j.val] S1.size (inb1 j))).squeeze S_ squeezes_S1_S_).sem = recvS j := by
  revert j; decide +kernel

/-- The printed index of a send semaphore names the device `r` away, -/
theorem send_sem (c : Dev nD) (r : Fin 32) {o : Fin 1 → Nat} (ho : o = k0_off1 c (BitVec.ofNat 32 r.val)) (p) :
    ((cc0_scratch3.slice (Rect.unit (s := S32) o S1.size p)).squeeze S_ squeezes_S1_S_).sem = sendS (sh c r.val) := by
  rw [SemArray.slice_unit_congr cc0_scratch3 (ho.trans (k0_off1_eq c r)) _ (inb1 (sh c r.val))]; exact send_at (sh c r.val)

/-- as does that of a receive semaphore waited for; -/
theorem recv_sem (c : Dev nD) (r : Fin 32) {o : Fin 1 → Nat} (ho : o = k0_off1 c (BitVec.ofNat 32 r.val)) (p) :
    ((cc0_scratch4.slice (Rect.unit (s := S32) o S1.size p)).squeeze S_ squeezes_S1_S_).sem = recvS (sh c r.val) := by
  rw [SemArray.slice_unit_congr cc0_scratch4 (ho.trans (k0_off1_eq c r)) _ (inb1 (sh c r.val))]; exact recv_at (sh c r.val)

/-- the receive semaphore of a send is the sender's own. -/
theorem self_sem (c : Dev nD) (p) :
    ((cc0_scratch4.slice (Rect.unit (s := S32) (k0_off2 c) S1.size p)).squeeze S_ squeezes_S1_S_).sem = recvS c := by
  rw [SemArray.slice_unit_congr cc0_scratch4 (k0_off2_eq c) _ (inb1 c)]; exact recv_at c

/-- The printed slices of the cast buffer are the row blocks; -/
theorem row_view (c : Dev nD) (r : Fin 32) {o : Fin 2 → Nat} (ho : o = k0_off4 c (BitVec.ofNat 32 r.val)) (p) :
    bM.slice (Rect.unit (s := S4096x128) o S128x128.size p) (fun _ => rfl) = rowM (sh c r.val) :=
  Memref.slice_unit_congr bM (ho.trans (k0_off4_eq c r)) _ _ _ _

/-- those of the gather buffer waited for are the slots; -/
theorem col_view (c : Dev nD) (r : Fin 32) {o : Fin 2 → Nat} (ho : o = k0_off5 c (BitVec.ofNat 32 r.val)) (p) :
    gM.slice (Rect.unit (s := S128x4096) o S128x128.size p) (fun _ => rfl) = colM (sh c r.val) :=
  Memref.slice_unit_congr gM (ho.trans (k0_off5_eq c r)) _ _ _ _

/-- the slot sent to is the sender's own. -/
theorem self_view (c : Dev nD) (p) :
    gM.slice (Rect.unit (s := S128x4096) (k0_off3 c) S128x128.size p) (fun _ => rfl) = colM c :=
  Memref.slice_unit_congr gM (k0_off3_eq c) _ _ _ _

/-! ## Contents -/

/-- Device `c`'s columns of `x`, as its staging buffer holds them. -/
def xstg (c : Dev nD) : (cc0_stg0_0 : Ref sig .tc).ty.Contents (Elt F) :=
  (win0_0.blk (0 : Fin 1)).view.read (Elt F) ((s₀ m ρ).mem ((c : Thread nD τ).loc main_arg0))

/-- The same cast to bf16. -/
def castOf (c : Dev nD) : (cc0_scratch0 : Ref sig .tc).ty.Contents (Elt F) := k0_pay2 (xstg m ρ c)

/-- All of `w`, as device `c`'s HBM holds it. -/
def wOf (c : Dev nD) : (main_arg1 : Ref sig .tc).ty.Contents (Elt F) := (s₀ m ρ).mem ((c : Thread nD τ).loc main_arg1)

/-- Where device `c`'s gather buffer's entry at row `i`, column `l` comes from: row `128·c + i`, column `l mod 128` of the
    cast buffer of device `l / 128`. -/
def srcDev (l : Fin 4096) : Dev nD := ⟨l.val / 128, by have := l.isLt; show l.val / 128 < 32; omega⟩
/-- … and the entry there. -/
def srcIdx (c : Dev nD) (i : Fin 128) (l : Fin 4096) : S4096x128.Idx :=
  ix2 ⟨128 * c.val + i.val, by have := i.isLt; have : c.val < 32 := c.isLt; omega⟩ ⟨l.val % 128, Nat.mod_lt _ (by decide)⟩

/-- Device `c`'s gather buffer once every block landed. -/
def gathered (c : Dev nD) : (cc0_scratch1 : Ref sig .tc).ty.Contents (Elt F) :=
  fun x : S128x4096.Idx => castOf m ρ (srcDev (x 1)) (srcIdx c (x 0) (x 1))

/-- Device `c`'s result. -/
def outAt (c : Dev nD) : (cc0_stg1_0 : Ref sig .tc).ty.Contents (Elt F) := k0_pay1 (gathered m ρ c) (wOf m ρ c)

/-- A block of the cast buffer of device `c`, and the slot of device `j`'s gather buffer for device `s`'s block. -/
def rowPts (c j : Dev nD) (f : Buf (Elt F) ((rowM j).view.loc (c : Thread nD τ))) : sProp 𝕄 :=
  (rowM j).view.loc (c : Thread nD τ) ↦[(rowM j).view.set]{fullShare} f
/-- … the slot of device `j`'s gather buffer for device `s`'s block. -/
def colPts (j s : Dev nD) (f : Buf (Elt F) ((colM s).view.loc (j : Thread nD τ))) : sProp 𝕄 :=
  (colM s).view.loc (j : Thread nD τ) ↦[(colM s).view.set]{fullShare} f

omit [FloatOps F] in
instance rowPts_storable (c j : Dev nD) (f) : BI.Storable (upEmb : UEmb _ 𝕄) (rowPts (F := F) c j f) := by unfold rowPts; infer_instance
omit [FloatOps F] in
instance colPts_storable (j s : Dev nD) (f) : BI.Storable (upEmb : UEmb _ 𝕄) (colPts (F := F) j s f) := by unfold colPts; infer_instance

/-- Rows `j` of device `c`'s cast buffer, written to `c`'s slot on device `j`, are what `gathered j` has there. -/
theorem landed (c j : Dev nD) (fd : Buf (Elt F) ((colM c).view.loc (j : Thread nD τ))) :
    ((colM c).view.loc (j : Thread nD τ) ↦[(colM c).view.set]{fullShare}
        (colM c).view.write (Elt F) fd ((rowM j).view.read (Elt F) (castOf m ρ c)) Finset.univ : sProp 𝕄)
      = colPts j c (gathered m ρ j) := by
  unfold colPts
  refine pointsTo_congr fun i hi => ?_
  obtain ⟨x, rfl⟩ := View.exists_of_mem_set_slice hi
  refine ((colM c).view.write_emb_of_mem (Val := Elt F) fd _ (Finset.mem_univ x)).trans ?_
  have hx1 : (x 1).val < 128 := (x 1).isLt
  have e0 : (((colM c).view.emb x 0 : Fin _) : Nat) = 0 + (x 0).val :=
    ValueKit.view_emb_slice_whole_unit_val cc0_scratch1 ![0, 128 * c.val] S128x128.size (col_inb c) x 0
  have e1 : (((colM c).view.emb x 1 : Fin _) : Nat) = 128 * c.val + (x 1).val :=
    ValueKit.view_emb_slice_whole_unit_val cc0_scratch1 ![0, 128 * c.val] S128x128.size (col_inb c) x 1
  have d0 : (((rowM j).view.emb x 0 : Fin _) : Nat) = 128 * j.val + (x 0).val :=
    ValueKit.view_emb_slice_whole_unit_val cc0_scratch0 ![128 * j.val, 0] S128x128.size (row_inb j) x 0
  have d1 : (((rowM j).view.emb x 1 : Fin _) : Nat) = 0 + (x 1).val :=
    ValueKit.view_emb_slice_whole_unit_val cc0_scratch0 ![128 * j.val, 0] S128x128.size (row_inb j) x 1
  show castOf m ρ c ((rowM j).view.emb x)
    = castOf m ρ (srcDev ((colM c).view.emb x 1)) (srcIdx j ((colM c).view.emb x 0) ((colM c).view.emb x 1))
  have hs : srcDev ((colM c).view.emb x 1) = c := Fin.ext (by
    show (((colM c).view.emb x 1 : Fin _) : Nat) / 128 = c.val
    rw [e1]; omega)
  have hi : (rowM j).view.emb x = srcIdx j ((colM c).view.emb x 0) ((colM c).view.emb x 1) := funext fun a => Fin.ext (by
    match a with
    | ⟨0, _⟩ => exact d0.trans (by show 128 * j.val + (x 0).val = 128 * j.val + (((colM c).view.emb x 0 : Fin _) : Nat); rw [e0]; omega)
    | ⟨1, _⟩ => exact d1.trans (by show 0 + (x 1).val = (((colM c).view.emb x 1 : Fin _) : Nat) % 128; rw [e1]; omega))
  rw [hs, hi]

/-! ## The two buffers cut into their 32 blocks -/

/-- The entries of a row block, -/
abbrev rowSet (j : Dev nD) : Finset S4096x128.Idx := (rowM j).view.set
/-- of a slot. -/
abbrev colSet (s : Dev nD) : Finset S128x4096.Idx := (colM s).view.set

/-- Row blocks are apart, -/
theorem row_disj (j j' : Dev nD) (h : j ≠ j') : Disjoint (rowSet j) (rowSet j') := by
  unfold rowSet
  rw [show (rowM j).view.set = _ from View.set_slice_whole cc0_scratch0 _, show (rowM j').view.set = _ from View.set_slice_whole cc0_scratch0 _]
  refine Rect.unit_disjoint (0 : Fin 2) ?_
  show 128 * j.val + 128 ≤ 128 * j'.val ∨ 128 * j'.val + 128 ≤ 128 * j.val
  have : j.val ≠ j'.val := fun e => h (Fin.ext e)
  omega

/-- and so are slots; -/
theorem col_disj (j j' : Dev nD) (h : j ≠ j') : Disjoint (colSet j) (colSet j') := by
  unfold colSet
  rw [show (colM j).view.set = _ from View.set_slice_whole cc0_scratch1 _, show (colM j').view.set = _ from View.set_slice_whole cc0_scratch1 _]
  refine Rect.unit_disjoint (1 : Fin 2) ?_
  show 128 * j.val + 128 ≤ 128 * j'.val ∨ 128 * j'.val + 128 ≤ 128 * j.val
  have : j.val ≠ j'.val := fun e => h (Fin.ext e)
  omega

/-- the row blocks cover the cast buffer, -/
theorem row_cover : Finset.univ.biUnion rowSet = Finset.univ := by
  refine Finset.eq_univ_iff_forall.mpr fun i => ?_
  have h0 : (i 0).val < 4096 := (i 0).isLt
  have h1 : (i 1).val < 128 := (i 1).isLt
  refine Finset.mem_biUnion.mpr ⟨(⟨(i 0).val / 128, by show (i 0).val / 128 < 32; omega⟩ : Dev nD), Finset.mem_univ _, ?_⟩
  unfold rowSet
  rw [show (rowM _).view.set = _ from View.set_slice_whole cc0_scratch0 _]
  refine Rect.mem_set_unit.mpr fun a => ?_
  match a with
  | ⟨0, _⟩ => show 128 * ((i 0).val / 128) ≤ (i 0).val ∧ (i 0).val < 128 * ((i 0).val / 128) + 128; omega
  | ⟨1, _⟩ => show 0 ≤ (i 1).val ∧ (i 1).val < 0 + 128; omega

/-- the slots the gather buffer. -/
theorem col_cover : Finset.univ.biUnion colSet = Finset.univ := by
  refine Finset.eq_univ_iff_forall.mpr fun i => ?_
  have h0 : (i 0).val < 128 := (i 0).isLt
  have h1 : (i 1).val < 4096 := (i 1).isLt
  refine Finset.mem_biUnion.mpr ⟨(⟨(i 1).val / 128, by show (i 1).val / 128 < 32; omega⟩ : Dev nD), Finset.mem_univ _, ?_⟩
  unfold colSet
  rw [show (colM _).view.set = _ from View.set_slice_whole cc0_scratch1 _]
  refine Rect.mem_set_unit.mpr fun a => ?_
  match a with
  | ⟨0, _⟩ => show 0 ≤ (i 0).val ∧ (i 0).val < 0 + 128; omega
  | ⟨1, _⟩ => show 128 * ((i 1).val / 128) ≤ (i 1).val ∧ (i 1).val < 128 * ((i 1).val / 128) + 128; omega

omit [FloatOps F] in
/-- The cast buffer is its 32 blocks of rows; -/
theorem rows_eq (c : Dev nD) (f : Buf (Elt F) ((c : Thread nD τ).loc cc0_scratch0)) :
    (((c : Thread nD τ).loc cc0_scratch0) ↦{fullShare} f : sProp 𝕄) = bigSep Finset.univ fun j : Dev nD => rowPts c j f :=
  Ring.pointsTo_blocks (ℓ := (c : Thread nD τ).loc cc0_scratch0) rowSet row_disj row_cover f

omit [FloatOps F] in
/-- the gather buffer its 32 blocks of columns. -/
theorem cols_eq (c : Dev nD) (f : Buf (Elt F) ((c : Thread nD τ).loc cc0_scratch1)) :
    (((c : Thread nD τ).loc cc0_scratch1) ↦{fullShare} f : sProp 𝕄) = bigSep Finset.univ fun s : Dev nD => colPts c s f :=
  Ring.pointsTo_blocks (ℓ := (c : Thread nD τ).loc cc0_scratch1) colSet col_disj col_cover f

end Cert.AllToAll
-- ==== Proof.Schedule.lean ====
/-
  The schedule of the semaphores, what each device owes at launch, and the levels that order the waits.

  Every cell has one round. Device `c`'s barrier cell gets one unit from each other device `d`, and with it `d`'s slot for
  `c`'s block. Its send cell for `j` gets back the rows lent to that transfer, its receive cell for `s` the slot holding
  `s`'s block, its copy cell the copy of `w`.
-/
module

public import proofs.«01_k».proof.Proof.Mesh
public import Mathlib.Algebra.BigOperators.Intervals

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What each duty hands over -/

/-- `d`'s unit on `c`'s barrier cell comes with `d`'s slot for `c`'s block, at whatever contents. -/
def barPay (c d : Dev nD) : sProp 𝕄 := iprop(∃ f, colPts d c f)

/-- The copy of `w` and the original. -/
def wPay (c : Dev nD) : sProp 𝕄 :=
  iprop((((c : Thread nD τ).loc cc0_scratch2) ↦{fullShare} wOf m ρ c) ∗ (((c : Thread nD τ).loc main_arg1) ↦{fullShare} wOf m ρ c))

/-- The device a number names. -/
def devOf (n : ℕ) : Dev nD := ⟨n % 32, Nat.mod_lt _ (by decide)⟩

/-- The device that a send semaphore is for, -/
theorem devOf_send (j : Dev nD) : devOf ((sendS j).val - 2) = j := Fin.ext (by
  have : j.val < 32 := j.isLt
  show (2 + j.val - 2) % 32 = j.val; omega)
/-- and a receive semaphore. -/
theorem devOf_recv (s : Dev nD) : devOf ((recvS s).val - 34) = s := Fin.ext (by
  have : s.val < 32 := s.isLt
  show (34 + s.val - 34) % 32 = s.val; omega)

/-- What a DMA semaphore's one duty hands over, by the semaphore's number. -/
def dmaPay (c : Dev nD) (q : ℕ) : sProp 𝕄 :=
  if q < 34 then rowPts c (devOf (q - 2)) (castOf m ρ c)
  else if q < 66 then colPts c (devOf (q - 34)) (gathered m ρ c)
  else wPay m ρ c

/-- The duties of a TensorCore's semaphore in its one round: a barrier's are the other devices', a transfer's is device 0's
    name, standing for its one duty. -/
def dutiesOf (c : Dev nD) : SemLoc sig → Finset (Dev nD)
  | .reg _ => Finset.univ.erase c
  | .dma q => if 2 ≤ q.val then {0} else ∅

/-- The units of a duty on a semaphore; -/
def amountOf : SemLoc sig → ℕ
  | .reg _ => 1
  | .dma q => if q.val < 66 then N else NW

/-- what it hands over. -/
def payOf (c d : Dev nD) : SemLoc sig → sProp 𝕄
  | .reg _ => barPay c d
  | .dma q => dmaPay m ρ c q.val

/-- A DMA semaphore has one duty. -/
theorem dutiesOf_dma (c : Dev nD) (q : DmaSem sig) (h : 2 ≤ q.val) : dutiesOf c (.dma q) = {0} := if_pos h
/-- A block's copy pays the block's units; -/
theorem amountOf_block (q : DmaSem sig) (h : q.val < 66) : amountOf (.dma q) = N := if_pos h
/-- the copy of `w` pays its own. -/
theorem amountOf_copy (q : DmaSem sig) (h : ¬ q.val < 66) : amountOf (.dma q) = NW := if_neg h

/-- Every duty pays something. -/
theorem amountOf_pos (sm : SemLoc sig) : 0 < amountOf sm := by
  match sm with
  | .reg _ => exact Nat.one_pos
  | .dma q =>
    show 0 < if q.val < 66 then N else NW
    split
    · exact N_pos
    · exact NW_pos

/-- The schedule: one round on every cell. -/
def meshRd : Rounds.Schedule (GSem nD τ sig) (Dev nD) 𝕄 where
  duties g r := if r = 0 ∧ g.1.2 = .tc then dutiesOf g.1.1 g.2 else ∅
  unitless _ := False
  amount g _ _ := amountOf g.2
  payload g _ d := payOf m ρ g.1.1 d g.2
  amount_pos g _ _ _ := amountOf_pos g.2

instance payOf_storable (c d : Dev nD) (sm : SemLoc sig) : BI.Storable (upEmb : UEmb _ 𝕄) (payOf m ρ c d sm) := by
  match sm with
  | .reg _ => show BI.Storable upEmb (barPay c d); unfold barPay; infer_instance
  | .dma q =>
    show BI.Storable upEmb (dmaPay m ρ c q.val)
    unfold dmaPay wPay
    (repeat' split) <;> infer_instance

instance meshRd_payload_storable (g : GSem nD τ sig) (r : ℕ) (d : Dev nD) :
    BI.Storable (upEmb : UEmb _ 𝕄) ((meshRd (F := F) m ρ).payload g r d) := payOf_storable m ρ g.1.1 d g.2

section Cells

variable (c j s : Dev nD)

/-- Round 0 has the duties above, -/
theorem duties_at (sm : SemLoc sig) : (meshRd (F := F) m ρ).duties ((c : Thread nD τ), sm) 0 = dutiesOf c sm := by
  dsimp only [meshRd]; exact if_pos ⟨rfl, rfl⟩

/-- no later round has any. -/
theorem duties_later (g : GSem nD τ sig) : ∀ r, 1 ≤ r → (meshRd (F := F) m ρ).duties g r = ∅ :=
  fun r hr => by dsimp only [meshRd]; exact if_neg fun h => by omega

/-- On the barrier every other device pays; -/
theorem duties_bar : (meshRd (F := F) m ρ).duties (barCell c) 0 = Finset.univ.erase c := duties_at m ρ c _
/-- on a send cell its copy does, -/
theorem duties_send : (meshRd (F := F) m ρ).duties (sendCell c j) 0 = {0} := (duties_at m ρ c _).trans (dutiesOf_dma c _ (Nat.le_add_right _ _))
/-- on a receive cell the block landing, -/
theorem duties_recv : (meshRd (F := F) m ρ).duties (recvCell c s) 0 = {0} :=
  (duties_at m ρ c _).trans (dutiesOf_dma c _ (Nat.le_trans (by decide) (Nat.le_add_right 34 s.val)))
/-- on the copy cell the copy. -/
theorem duties_w : (meshRd (F := F) m ρ).duties (wCell c) 0 = {0} := (duties_at m ρ c _).trans (dutiesOf_dma c _ (by rw [wS_val]; decide))

/-- A signal is one unit; -/
theorem amount_bar (d : Dev nD) : (meshRd (F := F) m ρ).amount (barCell c) 0 d = 1 := rfl
/-- a block sent pays its units, -/
theorem amount_send (d : Dev nD) : (meshRd (F := F) m ρ).amount (sendCell c j) 0 d = N :=
  amountOf_block _ (by have : j.val < 32 := j.isLt; show 2 + j.val < 66; omega)
/-- and so does a block landed, -/
theorem amount_recv (d : Dev nD) : (meshRd (F := F) m ρ).amount (recvCell c s) 0 d = N :=
  amountOf_block _ (by have : s.val < 32 := s.isLt; show 34 + s.val < 66; omega)
/-- the copy of `w` pays its own. -/
theorem amount_w (d : Dev nD) : (meshRd (F := F) m ρ).amount (wCell c) 0 d = NW := amountOf_copy wS (by rw [wS_val]; decide)

/-- The barrier hands over the slots; -/
theorem payload_bar (d : Dev nD) : (meshRd (F := F) m ρ).payload (barCell c) 0 d = barPay c d := rfl
/-- a send cell the rows lent, -/
theorem payload_send (d : Dev nD) : (meshRd (F := F) m ρ).payload (sendCell c j) 0 d = rowPts c j (castOf m ρ c) := by
  show dmaPay m ρ c (sendS j).val = _
  have h : (sendS j).val < 34 := by have : j.val < 32 := j.isLt; show 2 + j.val < 34; omega
  unfold dmaPay; rw [if_pos h, devOf_send]
/-- a receive cell the slot with its block, -/
theorem payload_recv (d : Dev nD) : (meshRd (F := F) m ρ).payload (recvCell c s) 0 d = colPts c s (gathered m ρ c) := by
  show dmaPay m ρ c (recvS s).val = _
  have h : ¬ (recvS s).val < 34 := by show ¬ 34 + s.val < 34; omega
  have h' : (recvS s).val < 66 := by have : s.val < 32 := s.isLt; show 34 + s.val < 66; omega
  unfold dmaPay; rw [if_neg h, if_pos h', devOf_recv]
/-- the copy cell `w`, twice. -/
theorem payload_w (d : Dev nD) : (meshRd (F := F) m ρ).payload (wCell c) 0 d = wPay m ρ c := by
  show dmaPay m ρ c wS.val = _
  unfold dmaPay; rw [wS_val, if_neg (by decide), if_neg (by decide)]

/-- The barrier expects 31 units. -/
theorem expect_bar : (meshRd (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
  rfl

/-- A cell of one duty: its whole round is that duty. -/
theorem expect_one {g : GSem nD τ sig} {n : ℕ} (h : (meshRd (F := F) m ρ).duties g 0 = {0})
    (ha : (meshRd (F := F) m ρ).amount g 0 0 = n) : (meshRd (F := F) m ρ).expect g 0 = n := by
  unfold Schedule.expect Schedule.amountOf
  rw [h, Finset.sum_singleton, ha]

/-- A cell of one duty hands over its one payload. -/
theorem rest_one {g : GSem nD τ sig} {P : sProp 𝕄} (h : (meshRd (F := F) m ρ).duties g 0 = {0})
    (hp : (meshRd (F := F) m ρ).payload g 0 0 = P) :
    bigSep ((meshRd (F := F) m ρ).duties g 0 \ ∅) (fun d => (meshRd (F := F) m ρ).payload g 0 d) = P := by
  rw [Finset.sdiff_empty, h, bigSep_singleton, hp]

/-- The barrier's round: the 31 other devices' slots for `c`'s block. -/
theorem rest_bar : bigSep ((meshRd (F := F) m ρ).duties (barCell c) 0 \ ∅) (fun d => (meshRd (F := F) m ρ).payload (barCell c) 0 d)
    = bigSep (Finset.univ.erase c) fun d => (barPay c d : sProp 𝕄) := by
  rw [Finset.sdiff_empty, duties_bar]; rfl

end Cells

/-! ## What a device owes -/

/-- The barrier units device `c` has still to give when its next is the one to `sh c r`; -/
def OB (c : Dev nD) (r : ℕ) : CellTallies nD τ sig Unit := ∑ k ∈ Finset.Ico r 32, tallyAt (barCell (sh c k)) () 1
/-- and the blocks it has still to send. -/
def OR (c : Dev nD) (r : ℕ) : CellTallies nD τ sig Unit := ∑ k ∈ Finset.Ico r 32, tallyAt (recvCell (sh c k) c) () N

/-- All that device `c` owes at launch. -/
def O₀ (c : Dev nD) : CellTallies nD τ sig Unit := OB c 1 + OR c 0

/-- One signal given is one owed less; -/
theorem OB_peel (c : Dev nD) {r : ℕ} (hr : r < 32) : OB c r = OB c (r + 1) + tallyAt (barCell (sh c r)) () 1 := by
  unfold OB; rw [Finset.sum_eq_sum_Ico_succ_bot hr, add_comm]
/-- after all, none is owed. -/
theorem OB_end (c : Dev nD) : OB c 32 = 0 := by unfold OB; rw [Finset.Ico_self, Finset.sum_empty]
/-- One block sent is one owed less; -/
theorem OR_peel (c : Dev nD) {r : ℕ} (hr : r < 32) : OR c r = OR c (r + 1) + tallyAt (recvCell (sh c r) c) () N := by
  unfold OR; rw [Finset.sum_eq_sum_Ico_succ_bot hr, add_comm]
/-- after all, none is owed. -/
theorem OR_end (c : Dev nD) : OR c 32 = 0 := by unfold OR; rw [Finset.Ico_self, Finset.sum_empty]

/-- A sum of tallies is positive only at one of their cells. -/
theorem sum_tally_pos {S : Finset ℕ} {cell : ℕ → GSem nD τ sig} {n : ℕ} {g : GSem nD τ sig} {u : Unit}
    (h : 0 < (∑ k ∈ S, (tallyAt (cell k) () n : CellTallies nD τ sig Unit)) g u) : ∃ k ∈ S, g = cell k := by
  by_contra hn
  have : (∑ k ∈ S, (tallyAt (cell k) () n : CellTallies nD τ sig Unit)) g u = 0 := by
    rw [Finset.sum_apply, Finsupp.finset_sum_apply]
    refine Finset.sum_eq_zero fun k hk => ?_
    rw [tallyAt_apply, if_neg fun e => hn ⟨k, hk, e.1⟩]
  omega

/-- Signals are owed to barriers alone, -/
theorem OB_pos {c : Dev nD} {r : ℕ} {g : GSem nD τ sig} {u : Unit} (h : 0 < OB c r g u) : ∃ j, g = barCell j := by
  obtain ⟨k, -, e⟩ := sum_tally_pos (cell := fun k => barCell (sh c k)) h; exact ⟨_, e⟩
/-- blocks to receive cells alone. -/
theorem OR_pos {c : Dev nD} {r : ℕ} {g : GSem nD τ sig} {u : Unit} (h : 0 < OR c r g u) : ∃ j, g = recvCell j c := by
  obtain ⟨k, -, e⟩ := sum_tally_pos (cell := fun k => recvCell (sh c k) c) h; exact ⟨_, e⟩

/-! ## The levels: barriers at 1, receive cells at 2, everything else at 0 -/

/-- Every cell of a TensorCore has one index; -/
def L (g : GSem nD τ sig) : Finset Unit := if g.1.2 = .tc then {()} else ∅
/-- The level of a semaphore: -/
def lvOf : SemLoc sig → ℕ
  | .reg _ => 1
  | .dma q => if 34 ≤ q.val ∧ q.val < 66 then 2 else 0
/-- and of a cell. -/
def lv (g : GSem nD τ sig) (_ : Unit) : ℕ := lvOf g.2

/-- other threads have none. -/
theorem L_of_ne (g : GSem nD τ sig) (h : g.1.2 ≠ .tc) : L g = ∅ := if_neg h
/-- A TensorCore has it. -/
theorem L_tc (c : Dev nD) (sm : SemLoc sig) : L ((c : Thread nD τ), sm) = {()} := if_pos rfl

/-- Receive cells are at level 2. -/
theorem lv_recv (j s : Dev nD) : lv (recvCell j s) () = 2 :=
  if_pos (by have : s.val < 32 := s.isLt; show 34 ≤ 34 + s.val ∧ 34 + s.val < 66; omega)

omit [FloatOps F] in
/-- A device waits at a cell below every cell it owes. -/
theorem mayWait (c : Dev nD) (sm : SemLoc sig) (n : ℕ) (O : CellTallies nD τ sig Unit) (hs : lvOf sm ≤ n)
    (hO : ∀ g u, 0 < O g u → g.1.2 = .tc ∧ n < lvOf g.2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
/-- Before and after its body a device may wait at its staging cells. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait c _ 0 _ (by show (if 34 ≤ q.val ∧ q.val < 66 then 2 else 0) ≤ 0; rw [if_neg (by omega)]) fun g u h => ?_
    unfold O₀ at h
    rw [Pi.add_apply, Finsupp.add_apply] at h
    rcases Nat.eq_zero_or_pos (OB c 1 g u) with e | e
    · rw [e, Nat.zero_add] at h
      obtain ⟨j, rfl⟩ := OR_pos h
      exact ⟨rfl, by have := lv_recv j c; unfold lv at this; rw [this]; decide⟩
    · obtain ⟨j, rfl⟩ := OB_pos e
      exact ⟨rfl, Nat.one_pos⟩
  · rw [MayWait_zero]; iintro -; iempintro

omit [FloatOps F] in
/-- At its barrier a device owes blocks only. -/
theorem mayWait_bar (c : Dev nD) : (levAts L lv : sProp 𝕄) ⊢ MayWait (c : Thread nD τ) (.reg barS) () (OR c 0) :=
  mayWait c _ 1 _ (Nat.le_refl 1) fun g u h => by
    obtain ⟨j, rfl⟩ := OR_pos h
    exact ⟨rfl, by have := lv_recv j c; unfold lv at this; rw [this]; decide⟩

end Cert.AllToAll
-- ==== Proof.State.lean ====
/-
  What device `c` holds between two operations of its body, phase by phase.

  The body has four phases of up to 32 like steps: signal the other devices, send the blocks, wait for the blocks sent to
  it, wait for the rows lent. A phase's assertion is one family over the steps still to do and one over the steps done,
  the steps numbered by the distance `k` of the device `sh c k` they concern; `R` is whatever else the device holds.
-/
module

public import proofs.«01_k».proof.Proof.Schedule
public import Idealize.SL.BI.BigOpNat

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-! ## The 66 cells of a device: its barrier, then the DMA semaphores after the two staging ones -/

/-- The 66 semaphores of a device: the barrier, then its DMA semaphores. -/
def csem (k : Fin 66) : SemLoc sig := if k.val = 0 then .reg barS else .dma ⟨k.val + 1, by have := k.isLt; show k.val + 1 < 67; omega⟩

/-- The `k`-th cell of a device. -/
def kcell (ck : Dev nD × Fin 66) : GSem nD τ sig := ((ck.1 : Thread nD τ), csem ck.2)

/-- The places of the barrier, -/
def iBar : Fin 66 := 0
/-- the send cells, -/
def iSend (j : Dev nD) : Fin 66 := ⟨1 + j.val, by have : j.val < 32 := j.isLt; omega⟩
/-- the receive cells, -/
def iRecv (s : Dev nD) : Fin 66 := ⟨33 + s.val, by have : s.val < 32 := s.isLt; omega⟩
/-- the copy cell. -/
def iW : Fin 66 := 65

/-- At those places are these cells: the barrier, -/
theorem kcell_bar (c : Dev nD) : kcell (c, iBar) = barCell c := rfl
/-- a send cell, -/
theorem kcell_send (c j : Dev nD) : kcell (c, iSend j) = sendCell c j := by
  unfold kcell csem
  rw [if_neg (by show ¬ 1 + j.val = 0; omega)]
  exact congrArg (fun q : DmaSem sig => (((c : Thread nD τ), SemLoc.dma q) : GSem nD τ sig)) (Fin.ext (by show 1 + j.val + 1 = 2 + j.val; omega))
/-- a receive cell, -/
theorem kcell_recv (c s : Dev nD) : kcell (c, iRecv s) = recvCell c s := by
  unfold kcell csem
  rw [if_neg (by show ¬ 33 + s.val = 0; omega)]
  exact congrArg (fun q : DmaSem sig => (((c : Thread nD τ), SemLoc.dma q) : GSem nD τ sig)) (Fin.ext (by show 33 + s.val + 1 = 34 + s.val; omega))
/-- the copy cell. -/
theorem kcell_w (c : Dev nD) : kcell (c, iW) = wCell c := by
  unfold kcell csem
  rw [if_neg (by show ¬ (65 : ℕ) = 0; decide)]
  exact congrArg (fun q : DmaSem sig => (((c : Thread nD τ), SemLoc.dma q) : GSem nD τ sig)) (Fin.ext wS_val.symm)

/-! ## What every device knows: each cell's invariant, that each has reached its round, the levels -/

/-- What all devices know: every cell has its invariant, every level its record. -/
def records (K : Dev nD × Fin 66 → ℕ) : sProp 𝕄 :=
  iprop((bigSep Finset.univ fun ck : Dev nD × Fin 66 => iprop(cellInv ER (meshRd m ρ) (K ck) (kcell ck) ∗ reached ER (kcell ck) 0)) ∗ levAts L lv)

instance records_persistent (K : Dev nD × Fin 66 → ℕ) : BI.Persistent (records m ρ K) := by unfold records; infer_instance

variable (K : Dev nD × Fin 66 → ℕ)

/-- The barrier may be waited for while blocks are owed. -/
theorem records_bar (c : Dev nD) : records m ρ K ⊢ (MayWait (c : Thread nD τ) (.reg barS) () (OR c 0) : sProp 𝕄) := by
  unfold records; iintro ⟨-, H⟩; iapply (mayWait_bar c); iexact H

/-- A cell's invariant, from the records. -/
theorem records_at (ck : Dev nD × Fin 66) {g : GSem nD τ sig} (h : kcell ck = g) :
    records m ρ K ⊢ iprop(cellInv ER (meshRd m ρ) (K ck) g ∗ reached ER g 0) := by
  subst h
  unfold records
  refine (sep_mono_left (bigSep_elim (Finset.mem_univ ck))).trans ?_
  iintro ⟨H, -⟩; iexact H

/-! ## The phases -/

/-- A phase: the steps in `[r, 32)` to do, those before done, `O` still owed, `R` besides. -/
def phase (c : Dev nD) (O : CellTallies nD τ sig Unit) (A B : ℕ → sProp 𝕄) (r : ℕ) (R : sProp 𝕄) : sProp 𝕄 :=
  iprop(records m ρ K ∗ (∃ W, owes (c : Thread nD τ) O W) ∗ bigSep (Finset.Ico r 32) A ∗ bigSep (Finset.Ico 0 r) B ∗ R)

/-- To signal `sh c k`: the token of that duty, and the slot for its block. -/
def sigA (c : Dev nD) (k : ℕ) : sProp 𝕄 := iprop(dutyTok ER (barCell (sh c k)) 0 c ∗ ∃ f, colPts c (sh c k) f)

/-- To send to `sh c k`: the rows, the slot there, the tokens of the two duties; sent: the credit to wait for the rows by. -/
def sendA (c : Dev nD) (k : ℕ) : sProp 𝕄 :=
  iprop(rowPts c (sh c k) (castOf m ρ c) ∗ (∃ f, colPts (sh c k) c f)
    ∗ dutyTok ER (sendCell c (sh c k)) 0 0 ∗ dutyTok ER (recvCell (sh c k) c) 0 0)
/-- … and after: the credit to take the rows back by. -/
def sendB (c : Dev nD) (k : ℕ) : sProp 𝕄 := cred (tallyAt (sendCell c (sh c k)) () N)

/-- To wait for the block of `sh c k`: credit and position; waited: the block in its slot, the semaphore at zero. -/
def recvA (c : Dev nD) (k : ℕ) : sProp 𝕄 :=
  iprop(cred (tallyAt (recvCell c (sh c k)) () N) ∗ atPos ER (recvCell c (sh c k)) 0 ∅ 0)
/-- … and after: the slot filled, the cell at zero. -/
def recvB (c : Dev nD) (k : ℕ) : sProp 𝕄 :=
  iprop(colPts c (sh c k) (gathered m ρ c) ∗ semVal (recvCell c (sh c k)) 0)

/-- To wait for the rows lent to `sh c k`: credit and position; waited: the rows, the semaphore at zero. -/
def backA (c : Dev nD) (k : ℕ) : sProp 𝕄 :=
  iprop(cred (tallyAt (sendCell c (sh c k)) () N) ∗ atPos ER (sendCell c (sh c k)) 0 ∅ 0)
/-- … and after: the rows back, the cell at zero. -/
def backB (c : Dev nD) (k : ℕ) : sProp 𝕄 :=
  iprop(rowPts c (sh c k) (castOf m ρ c) ∗ semVal (sendCell c (sh c k)) 0)

/-- Before the signal to `sh c r`; -/
def SigSt (c : Dev nD) (R : sProp 𝕄) (r : ℕ) : sProp 𝕄 := phase m ρ K c (OB c r + OR c 0) (sigA c) (fun _ => iprop(emp)) r R
/-- before the send to `sh c r`; -/
def SendSt (c : Dev nD) (R : sProp 𝕄) (r : ℕ) : sProp 𝕄 := phase m ρ K c (OR c r) (sendA m ρ c) (sendB c) r R
/-- before the wait for its block; -/
def RecvSt (c : Dev nD) (R : sProp 𝕄) (r : ℕ) : sProp 𝕄 := phase m ρ K c 0 (recvA c) (recvB m ρ c) r R
/-- before the wait for the rows lent to it. -/
def BackSt (c : Dev nD) (R : sProp 𝕄) (r : ℕ) : sProp 𝕄 := phase m ρ K c 0 (backA c) (backB m ρ c) r R

/-! ## One step of each phase -/

section Steps

variable {c : Dev nD} {α : Type}
variable {k : PUnit.{1} → Prog (TpuEff nD τ sig (Elt F) Λ₀ .tc) α}

/-- A step of a phase: what it takes of the step to do, and what it leaves of it done. -/
theorem phase_step {R : sProp 𝕄} {Q : α → sProp 𝕄} {O O' : CellTallies nD τ sig Unit} {A B : ℕ → sProp 𝕄} {r : ℕ} (hr : r < 32)
    {p : Prog (TpuEff nD τ sig (Elt F) Λ₀ .tc) α}
    (hstep : ∀ W, iprop(records m ρ K ∗ owes (c : Thread nD τ) O W ∗ A r)
      ⊢ iprop(((∃ W, owes (c : Thread nD τ) O' W) ∗ B r -∗ wp frame (wpE (defs₀ (F := F)) 𝒱₀ (c : Thread nD τ) none) Set.univ (k ⟨⟩) Q)
        -∗ wp frame (wpE (defs₀ (F := F)) 𝒱₀ (c : Thread nD τ) none) Set.univ p Q))
    (h : phase m ρ K c O' A B (r + 1) R ⊢ wp frame (wpE (defs₀ (F := F)) 𝒱₀ (c : Thread nD τ) none) Set.univ (k ⟨⟩) Q) :
    phase m ρ K c O A B r R ⊢ wp frame (wpE (defs₀ (F := F)) 𝒱₀ (c : Thread nD τ) none) Set.univ p Q := by
  unfold phase at h ⊢
  rw [BI.bigSep_Ico_succ_top (Nat.zero_le r)] at h
  rw [BI.bigSep_Ico_succ_bot hr]
  iintro ⟨#Hrec, ⟨%W, HO⟩, ⟨HA, HAs⟩, HB, HR⟩
  iapply (hstep W) $$ [HO HA]
  · isplitr; · iexact Hrec
    isplitl [HO]; · iexact HO
    iexact HA
  iintro ⟨HO, Hb⟩
  iapply h
  isplitr; · iexact Hrec
  isplitl [HO]; · iexact HO
  isplitl [HAs]; · iexact HAs
  isplitl [Hb HB]
  · isplitl [Hb]; · iexact Hb
    iexact HB
  iexact HR

/-- A signal: the slot handed to the device signalled. -/
theorem sig_step {R : sProp 𝕄} {Q : α → sProp 𝕄} (r : ℕ) (h1 : 1 ≤ r) (hr : r < 32) {n : Dev nD} (hn : n.val = (c.val + r) % 32)
    (h : SigSt m ρ K c R (r + 1) ⊢ wp frame (wpE (defs₀ (F := F)) 𝒱₀ (c : Thread nD τ) none) Set.univ (k ⟨⟩) Q) :
    SigSt m ρ K c R r ⊢ wp frame (wpE (defs₀ (F := F)) 𝒱₀ (c : Thread nD τ) none) Set.univ
      (.op (.semSignal (n : Thread nD τ) barS (1#32 : BitVec 32).toInt) k) Q := by
  have hne : c ∈ Finset.univ.erase (sh c r) := Finset.mem_erase.mpr ⟨fun e => by
    have := sh_inj c hr (by decide : 0 < 32) (e.symm.trans (sh_zero c).symm); omega, Finset.mem_univ _⟩
  obtain rfl := eq_sh hn
  refine phase_step m ρ K hr (fun W => ?_) h
  unfold sigA
  iintro ⟨#Hrec, HO, Ht, Hs⟩ Hk
  ihave Hc := (records_at m ρ K (sh c r, iBar) (kcell_bar (sh c r))) $$ Hrec
  icases Hc with ⟨#HI, #Hr⟩
  iapply (Rounds.wp_signal 𝒱₀ ER (meshRd m ρ) (c : Thread nD τ) none (dst := (sh c r : Thread nD τ)) (κ := K (sh c r, iBar))
      (d := c) (by rw [duties_bar]; exact hne) ((amount_bar m ρ (sh c r) c).trans (by decide)) () (O₀ := OB c r + OR c 0) (OB c (r + 1) + OR c 0)
      (by rw [OB_peel c hr]; exact add_right_comm _ _ _)) $$ [HO Ht Hs]
  · isplitr; · iexact HI
    isplitl [HO]; · iexact HO
    isplitl [Ht]; · iexact Ht
    isplitl [Hs]; · rw [payload_bar]; unfold barPay; iexact Hs
    iexact Hr
  iintro HO
  iapply Hk
  isplitl [HO]; · iexists W; iexact HO
  iempintro

/-- A send, its ends and semaphores known. -/
theorem send_core {R : sProp 𝕄} {Q : α → sProp 𝕄} (r : ℕ) (hr : r < 32) {n : Dev nD} (hn : n = sh c r)
    {src : Memref sig .tc .vmem S128x128 .bf16} {dst : Memref sig (Dev.tc n : Thread nD τ).2.kind .vmem S128x128 .bf16} {qs qr : DmaSem sig}
    (hsrc : src = rowM (sh c r)) (hdst : dst = colM c) (hqs : qs = sendS (sh c r)) (hqr : qr = recvS c)
    {hsc : dst.view.ref.isScScratch = false} {h₁ : src.view.WordExact} {h₂ : dst.view.WordExact}
    {h₃ : DmaTarget.Typed .vmem (.dma qr) (.remote (Dev.tc n : Thread nD τ) dst (.dma qs) hsc)}
    (h : SendSt m ρ K c R (r + 1) ⊢ wp frame (wpE (defs₀ (F := F)) 𝒱₀ (c : Thread nD τ) none) Set.univ (k ⟨⟩) Q) :
    SendSt m ρ K c R r ⊢ wp frame (wpE (defs₀ (F := F)) 𝒱₀ (c : Thread nD τ) none) Set.univ
      (.op (.enqueueDma src (.remote (Dev.tc n : Thread nD τ) dst (.dma qs) hsc) (.dma qr) h₁ h₂ h₃) k) Q := by
  subst hn hsrc hdst hqs hqr
  refine phase_step m ρ K hr (fun W => ?_) h
  unfold sendA sendB
  iintro ⟨#Hrec, HO, Hrow, ⟨%fd, Hslot⟩, HtS, HtR⟩ Hk
  ihave Hc := (records_at m ρ K (c, iSend (sh c r)) (kcell_send c (sh c r))) $$ Hrec
  icases Hc with ⟨#HIs, #Hrs⟩
  ihave Hc' := (records_at m ρ K (sh c r, iRecv c) (kcell_recv (sh c r) c)) $$ Hrec
  icases Hc' with ⟨#HIr, #Hrr⟩
  unfold rowPts
  iapply (Rounds.wp_send_pointsTo 𝒱₀ ER (meshRd m ρ) (c : Thread nD τ) none (κ₁ := K (c, iSend (sh c r))) (κ₂ := K (sh c r, iRecv c))
      (r₁ := 0) (r₂ := 0) (d₁ := 0) (d₂ := 0) (fd := fd)
      (by rw [duties_send]; exact Finset.mem_singleton_self _) (by rw [duties_recv]; exact Finset.mem_singleton_self _)
      () () N rfl (amount_send m ρ c _ 0) (amount_recv m ρ _ c 0) (O₀ := OR c r) (OR c (r + 1)) (OR_peel c hr) (W := W)
      (by rw [payload_send]; exact BI.Entails.refl _)
      (by rw [payload_recv, landed])) $$ [HO Hrow Hslot HtS HtR]
  · isplitr; · iexact HIs
    isplitr; · iexact HIr
    isplitl [Hrow]; · iexact Hrow
    isplitl [Hslot]; · unfold colPts; iexact Hslot
    isplitl [HO]; · iexact HO
    isplitl [HtS]; · iexact HtS
    isplitr; · iexact Hrs
    isplitl [HtR]; · iexact HtR
    iexact Hrr
  iintro ⟨Hcr, HO⟩
  iapply Hk
  isplitl [HO]; · iexists W; iexact HO
  iexact Hcr

/-- A send as the program writes it. -/
theorem send_step {R : sProp 𝕄} {Q : α → sProp 𝕄} (r : ℕ) (hr : r < 32) {n : Dev nD} (hn : n.val = (c.val + r) % 32) {p₁ p₂ p₃ p₄ hs₃ hs₄ hsc h₁ h₂ h₃}
    (h : SendSt m ρ K c R (r + 1) ⊢ wp frame (wpE (defs₀ (F := F)) 𝒱₀ (c : Thread nD τ) none) Set.univ (k ⟨⟩) Q) :
    SendSt m ρ K c R r ⊢ wp frame (wpE (defs₀ (F := F)) 𝒱₀ (c : Thread nD τ) none) Set.univ
      (.op (.enqueueDma (bM.slice (Rect.unit (s := S4096x128) (k0_off4 c (BitVec.ofNat 32 r)) S128x128.size p₄) hs₄)
        (.remote (Dev.tc n : Thread nD τ) (gM.slice (Rect.unit (s := S128x4096) (k0_off3 c) S128x128.size p₃) hs₃)
          (.dma ((cc0_scratch3.slice (Rect.unit (s := S32) (k0_off1 c (BitVec.ofNat 32 r)) S1.size p₁)).squeeze S_ squeezes_S1_S_).sem) hsc)
        (.dma ((cc0_scratch4.slice (Rect.unit (s := S32) (k0_off2 c) S1.size p₂)).squeeze S_ squeezes_S1_S_).sem) h₁ h₂ h₃) k) Q :=
  send_core m ρ K r hr (eq_sh hn) (row_view c ⟨r, hr⟩ rfl p₄) (self_view c p₃) (send_sem c ⟨r, hr⟩ rfl p₁) (self_sem c p₂) h

/-- A wait at a transfer's semaphore: what its one duty hands over, and the cell closed at zero. -/
theorem wait_one {Q : α → sProp 𝕄} {P : sProp 𝕄} {i : Fin 66} {q : DmaSem sig} {nn : ℕ} (hi : kcell (c, i) = ((c : Thread nD τ), .dma q))
    (hd : (meshRd (F := F) m ρ).duties ((c : Thread nD τ), .dma q) 0 = {0}) (ha : (meshRd (F := F) m ρ).amount ((c : Thread nD τ), .dma q) 0 0 = nn)
    (hp : (meshRd (F := F) m ρ).payload ((c : Thread nD τ), .dma q) 0 0 = P)
    {sp sp' : Space} {s : Shape} {e : EltTy} {src : Memref sig .tc sp s e} {dst : Memref sig .tc sp' s e} (hN : dst.view.dmaCredit = nn) {h₁ h₂} (W : Waits sig Unit) :
    iprop(records m ρ K ∗ owes (c : Thread nD τ) 0 W ∗ cred (tallyAt ((c : Thread nD τ), .dma q) () nn) ∗ atPos ER ((c : Thread nD τ), .dma q) 0 ∅ 0)
      ⊢ iprop(((∃ W, owes (c : Thread nD τ) 0 W) ∗ P ∗ semVal ((c : Thread nD τ), .dma q) 0
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h₁ h₂) k) Q) := by
  subst hN
  iintro ⟨#Hrec, HO, Hcr, Hat⟩ Hk
  ihave Hc := (records_at m ρ K (c, i) hi) $$ Hrec
  icases Hc with ⟨#HI, #Hr⟩
  iapply (Rounds.wp_wait_rest_token 𝒱₀ ER (meshRd m ρ) (c : Thread nD τ) none (κ := K (c, i))
      (wpE_waitDma2_eq 𝒱₀ (c : Thread nD τ) none Set.univ) (Set.mem_univ _) () (O := 0) (W := W) (R := 0) (m := 0) (T := ∅)
      (by rw [Nat.zero_add, expect_one m ρ hd ha])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave HP := (Entails.of_eq (rest_one m ρ hd hp)) $$ Hpay
  imod (Rounds.cell_close ER (meshRd m ρ) (Set.mem_univ (K (c, i))) (fun h => h) (R := 0 + 1) (duties_later m ρ _)) $$ [Hat] with Hz
  · isplitr; · iexact HI
    iexact Hat
  iapply Hk
  isplitl [HO]; · iexists _; iexact HO
  isplitl [HP]; · iexact HP
  iexact Hz

/-- A wait for a block. -/
theorem recv_step {R : sProp 𝕄} {Q : α → sProp 𝕄} (r : ℕ) (hr : r < 32) {p₁ p₅ hs₅} {src : Memref sig .tc .vmem S128x128 .bf16} {h₁ h₂}
    (h : RecvSt m ρ K c R (r + 1) ⊢ wp frame (wpE (defs₀ (F := F)) 𝒱₀ (c : Thread nD τ) none) Set.univ (k ⟨⟩) Q) :
    RecvSt m ρ K c R r ⊢ wp frame (wpE (defs₀ (F := F)) 𝒱₀ (c : Thread nD τ) none) Set.univ
      (.op (.waitDma2 ((cc0_scratch4.slice (Rect.unit (s := S32) (k0_off1 c (BitVec.ofNat 32 r)) S1.size p₁)).squeeze S_ squeezes_S1_S_).sem src
        (gM.slice (Rect.unit (s := S128x4096) (k0_off5 c (BitVec.ofNat 32 r)) S128x128.size p₅) hs₅) h₁ h₂) k) Q := by
  refine phase_step m ρ K hr (fun W => ?_) h
  unfold recvA recvB
  rw [recv_sem c ⟨r, hr⟩ rfl p₁]
  exact wait_one m ρ K (src := src) (dst := gM.slice (Rect.unit (s := S128x4096) (k0_off5 c (BitVec.ofNat 32 r)) S128x128.size p₅) hs₅) (h₁ := h₁) (h₂ := h₂) (kcell_recv c _) (duties_recv m ρ c _) (amount_recv m ρ c _ 0) (payload_recv m ρ c _ 0) rfl W

/-- A wait for rows lent. -/
theorem back_step {R : sProp 𝕄} {Q : α → sProp 𝕄} (r : ℕ) (hr : r < 32) {p₁ p₄ hs₄} {src : Memref sig .tc .vmem S128x128 .bf16} {h₁ h₂}
    (h : BackSt m ρ K c R (r + 1) ⊢ wp frame (wpE (defs₀ (F := F)) 𝒱₀ (c : Thread nD τ) none) Set.univ (k ⟨⟩) Q) :
    BackSt m ρ K c R r ⊢ wp frame (wpE (defs₀ (F := F)) 𝒱₀ (c : Thread nD τ) none) Set.univ
      (.op (.waitDma2 ((cc0_scratch3.slice (Rect.unit (s := S32) (k0_off1 c (BitVec.ofNat 32 r)) S1.size p₁)).squeeze S_ squeezes_S1_S_).sem src
        (bM.slice (Rect.unit (s := S4096x128) (k0_off4 c (BitVec.ofNat 32 r)) S128x128.size p₄) hs₄) h₁ h₂) k) Q := by
  refine phase_step m ρ K hr (fun W => ?_) h
  unfold backA backB
  rw [send_sem c ⟨r, hr⟩ rfl p₁]
  exact wait_one m ρ K (src := src) (dst := bM.slice (Rect.unit (s := S4096x128) (k0_off4 c (BitVec.ofNat 32 r)) S128x128.size p₄) hs₄) (h₁ := h₁) (h₂ := h₂) (kcell_send c _) (duties_send m ρ c _) (amount_send m ρ c _ 0) (payload_send m ρ c _ 0) rfl W

end Steps

end Cert.AllToAll
-- ==== Proof.Turns.lean ====
/-
  The body's operations outside the four phases, and the turns from one phase to the next: the copy of `w` started and
  `x` cast before the first signal, the barrier between signals and sends, and after the last wait the copy waited for and
  the product stored.
-/
module

public import proofs.«01_k».proof.Proof.State

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 66 → ℕ)

/-! ## A family over all devices, read around the mesh from `c` -/

omit [FloatOps F] in
/-- A family over the devices, as one over the distances from `c`. -/
theorem around (c : Dev nD) (Φ : Dev nD → sProp 𝕄) :
    bigSep Finset.univ Φ = bigSep (Finset.Ico 0 32) fun k => Φ (sh c k) := by
  have hu : (Finset.univ : Finset (Dev nD)) = (Finset.Ico 0 32).image (sh c) := by
    refine (Finset.eq_univ_iff_forall.mpr fun d => ?_).symm
    exact Finset.mem_image.mpr ⟨gap c d, Finset.mem_Ico.mpr ⟨Nat.zero_le _, gap_lt c d⟩, sh_gap c d⟩
  rw [hu]
  exact bigSep_image_of_injOn (fun k hk k' hk' e =>
    sh_inj c (Finset.mem_Ico.mp (Finset.mem_coe.mp hk)).2 (Finset.mem_Ico.mp (Finset.mem_coe.mp hk')).2 e) Φ

omit [FloatOps F] in
/-- The same with `c`'s own summand apart. -/
theorem around_own (c : Dev nD) (Φ : Dev nD → sProp 𝕄) :
    bigSep Finset.univ Φ = iprop(Φ c ∗ bigSep (Finset.Ico 1 32) fun k => Φ (sh c k)) := by
  rw [around c, BI.bigSep_Ico_succ_bot (by decide : 0 < 32), sh_zero]

/-! ## What is held beside the phases -/

/-- The two staging buffers: `x` in, the result's at whatever contents. -/
def io (c : Dev nD) : sProp 𝕄 :=
  iprop((((c : Thread nD τ).loc cc0_stg0_0) ↦{fullShare} xstg m ρ c) ∗ ∃ g, (((c : Thread nD τ).loc cc0_stg1_0) ↦{fullShare} g))

/-- The copy of `w` under way: the credit and position to wait for it by. -/
def copying (c : Dev nD) : sProp 𝕄 := iprop(cred (tallyAt (wCell c) () NW) ∗ atPos ER (wCell c) 0 ∅ 0)

/-- Beside the signals; -/
def sigR (c : Dev nD) : sProp 𝕄 :=
  iprop((∃ f, colPts c c f)
    ∗ (bigSep (Finset.Ico 0 32) fun k => iprop(rowPts c (sh c k) (castOf m ρ c) ∗ dutyTok ER (sendCell c (sh c k)) 0 0 ∗ dutyTok ER (recvCell (sh c k) c) 0 0))
    ∗ (cred (tallyAt (barCell c) () 31) ∗ atPos ER (barCell c) 0 ∅ 0)
    ∗ bigSep (Finset.Ico 0 32) (recvA c) ∗ (bigSep (Finset.Ico 0 32) fun k => atPos ER (sendCell c (sh c k)) 0 ∅ 0)
    ∗ copying c ∗ io m ρ c)
/-- beside the sends; -/
def sendR (c : Dev nD) : sProp 𝕄 :=
  iprop(semVal (barCell c) 0
    ∗ bigSep (Finset.Ico 0 32) (recvA c) ∗ (bigSep (Finset.Ico 0 32) fun k => atPos ER (sendCell c (sh c k)) 0 ∅ 0)
    ∗ copying c ∗ io m ρ c)
/-- beside the waits for blocks; -/
def recvR (c : Dev nD) : sProp 𝕄 := iprop(semVal (barCell c) 0 ∗ bigSep (Finset.Ico 0 32) (backA c) ∗ copying c ∗ io m ρ c)
/-- beside the waits for rows. -/
def backR (c : Dev nD) : sProp 𝕄 := iprop(semVal (barCell c) 0 ∗ bigSep (Finset.Ico 0 32) (recvB m ρ c) ∗ copying c ∗ io m ρ c)

/-! ## The turns -/

/-- All sent: a device owes nothing more, and may wait for the blocks. -/
theorem send_done (c : Dev nD) : SendSt m ρ K c (sendR m ρ c) 32 ⊢ RecvSt m ρ K c (recvR m ρ c) 0 := by
  unfold SendSt RecvSt phase sendR recvR
  rw [OR_end, Finset.Ico_self, Finset.Ico_self, bigSep_empty, bigSep_empty]
  iintro ⟨#Hrec, HO, -, Hcr, Hbar, HrA, Hat, Hw, Hio⟩
  isplitr; · iexact Hrec
  isplitl [HO]; · iexact HO
  isplitl [HrA]; · iexact HrA
  isplitr; · iempintro
  isplitl [Hbar]; · iexact Hbar
  isplitl [Hcr Hat]
  · unfold backA sendB
    rw [bigSep_sep']
    isplitl [Hcr] <;> iassumption
  isplitl [Hw] <;> iassumption

/-- All received. -/
theorem recv_done (c : Dev nD) : RecvSt m ρ K c (recvR m ρ c) 32 ⊢ BackSt m ρ K c (backR m ρ c) 0 := by
  unfold RecvSt BackSt phase recvR backR
  rw [Finset.Ico_self, Finset.Ico_self, bigSep_empty, bigSep_empty]
  iintro ⟨#Hrec, HO, -, HrB, Hbar, HbA, Hw, Hio⟩
  isplitr; · iexact Hrec
  isplitl [HO]; · iexact HO
  isplitl [HbA]; · iexact HbA
  isplitr; · iempintro
  isplitl [Hbar]; · iexact Hbar
  isplitl [HrB]; · iexact HrB
  isplitl [Hw] <;> iassumption

section Ops

variable {c : Dev nD} {α : Type} {k : PUnit.{1} → Prog (TpuEff nD τ sig (Elt F) Λ₀ .tc) α}

/-- The barrier: with the 31 units come the other devices' slots for `c`'s block. -/
theorem bar_step {Q : α → sProp 𝕄}
    (h : SendSt m ρ K c (sendR m ρ c) 0 ⊢ wp frame (wpE (defs₀ (F := F)) 𝒱₀ (c : Thread nD τ) none) Set.univ (k ⟨⟩) Q) :
    SigSt m ρ K c (sigR m ρ c) 32 ⊢ wp frame (wpE (defs₀ (F := F)) 𝒱₀ (c : Thread nD τ) none) Set.univ
      (.op (.semWait barS (31#32 : BitVec 32).toInt) k) Q := by
  unfold SigSt phase sigR
  rw [OB_end, zero_add]
  iintro ⟨#Hrec, ⟨%W, HO⟩, -, -, Hown, Hrows, ⟨Hcr, Hat⟩, HrA, HatS, Hw, Hio⟩
  ihave Hc := (records_at m ρ K (c, iBar) (kcell_bar c)) $$ Hrec
  icases Hc with ⟨#HI, -⟩
  iapply (Rounds.wp_wait_rest_token 𝒱₀ ER (meshRd m ρ) (c : Thread nD τ) none (κ := K (c, iBar))
      (wpE_semWait_eq 𝒱₀ (c : Thread nD τ) none Set.univ) (Set.mem_univ _) () (O := OR c 0) (W := W) (R := 0) (m := 0) (T := ∅)
      (by rw [expect_bar]; decide)) $$ [Hcr HO Hat]
  · isplitr; · iexact HI
    isplitl [Hcr]; · iexact Hcr
    isplitl [HO]; · iexact HO
    isplitr; · iapply (records_bar m ρ K c); iexact Hrec
    iexact Hat
  iintro ⟨HO, Hat, -, Hpay⟩
  ihave Hp := (Entails.of_eq (rest_bar m ρ c)) $$ Hpay
  imod (Rounds.cell_close ER (meshRd m ρ) (Set.mem_univ (K (c, iBar))) (fun h => h) (R := 0 + 1) (duties_later m ρ _)) $$ [Hat] with Hz
  · isplitr; · iexact HI
    iexact Hat
  iapply h
  unfold SendSt phase sendR
  rw [Finset.Ico_self, bigSep_empty]
  isplitr; · iexact Hrec
  isplitl [HO]; · iexists _; iexact HO
  isplitl [Hown Hp Hrows]
  · ihave Hslots := (show iprop((∃ f, colPts c c f) ∗ bigSep (Finset.univ.erase c) fun d => (barPay c d : sProp 𝕄))
        ⊢ bigSep (Finset.Ico 0 32) fun k => iprop(∃ f, colPts (sh c k) c f) from by
          rw [← around c fun d => iprop(∃ f, colPts d c f), bigSep_univ_at _ c]; exact BI.Entails.refl _) $$ [Hown Hp]
    · isplitl [Hown] <;> iassumption
    have heach : ∀ k, iprop((∃ f, colPts (sh c k) c f)
        ∗ rowPts c (sh c k) (castOf m ρ c) ∗ dutyTok ER (sendCell c (sh c k)) 0 0 ∗ dutyTok ER (recvCell (sh c k) c) 0 0)
        ⊢ (sendA m ρ c k : sProp 𝕄) := fun k => by
      unfold sendA
      iintro ⟨Hs, Hr, Ht⟩
      isplitl [Hr]; · iexact Hr
      isplitl [Hs]; · iexact Hs
      iexact Ht
    iapply ((Entails.of_eq (bigSep_sep' _ _ _).symm).trans (bigSep_mono fun k _ => heach k))
    isplitl [Hslots] <;> iassumption
  isplitr; · iempintro
  isplitl [Hz]; · iexact Hz
  isplitl [HrA]; · iexact HrA
  isplitl [HatS]; · iexact HatS
  isplitl [Hw] <;> iassumption

/-! ## The first operations: start the copy of `w`, cast `x` -/

/-- What the body starts from: everything owed; the gather buffer's slots and the signals' tokens; the cast buffer and the
    copy's buffer at whatever contents; `w`; the tokens of the sends; credit and positions; the staging buffers. -/
def Start (c : Dev nD) : sProp 𝕄 :=
  iprop(records m ρ K ∗ (∃ W, owes (c : Thread nD τ) (O₀ c) W)
    ∗ (∃ f, (((c : Thread nD τ).loc cc0_scratch1) ↦{fullShare} f)) ∗ (bigSep Finset.univ fun j : Dev nD => dutyTok ER (barCell j) 0 c)
    ∗ (∃ f, (((c : Thread nD τ).loc cc0_scratch0) ↦{fullShare} f)) ∗ (∃ f, (((c : Thread nD τ).loc cc0_scratch2) ↦{fullShare} f))
    ∗ (((c : Thread nD τ).loc main_arg1) ↦{fullShare} wOf m ρ c)
    ∗ (bigSep Finset.univ fun j : Dev nD => iprop(dutyTok ER (sendCell c j) 0 0 ∗ dutyTok ER (recvCell j c) 0 0)) ∗ dutyTok ER (wCell c) 0 0
    ∗ (cred (tallyAt (barCell c) () 31) ∗ atPos ER (barCell c) 0 ∅ 0)
    ∗ (bigSep Finset.univ fun s : Dev nD => iprop(cred (tallyAt (recvCell c s) () N) ∗ atPos ER (recvCell c s) 0 ∅ 0))
    ∗ (bigSep Finset.univ fun j : Dev nD => atPos ER (sendCell c j) 0 ∅ 0) ∗ atPos ER (wCell c) 0 ∅ 0
    ∗ io m ρ c)

/-- A whole buffer copied whole. -/
theorem copied (c : Dev nD) (fd : Buf (Elt F) ((c : Thread nD τ).loc cc0_scratch2)) :
    wM.view.write (Elt F) fd (hM.view.read (Elt F) (wOf m ρ c)) Finset.univ = wOf m ρ c := by
  show (View.whole cc0_scratch2).write (Elt F) fd ((View.whole main_arg1).read (Elt F) (wOf m ρ c)) Finset.univ = wOf m ρ c
  rw [View.read_whole]
  exact View.write_whole_univ _ _ _

/-- A slice that starts at the origin. -/
theorem hz : (![0, 0] : Fin 2 → Nat) = fun _ => 0 := funext fun a => by fin_cases a <;> rfl

/-- The operations before the first signal. -/
theorem first_ops {Q : α → sProp 𝕄} {inx inb} {h₁ h₂ h₃ l₁ l₂ s₁ s₂}
    (h : SigSt m ρ K c (sigR m ρ c) 1 ⊢ wp frame (wpE (defs₀ (F := F)) 𝒱₀ (c : Thread nD τ) none) Set.univ (k ⟨⟩) Q) :
    Start m ρ K c ⊢ wp frame (wpE (defs₀ (F := F)) 𝒱₀ (c : Thread nD τ) none) Set.univ
      (.op (.enqueueDma hM (.here wM) (.dma wS) h₁ h₂ h₃) fun _ =>
        .op (.load xM (Rect.unit (s := S4096x128) ![0, 0] S4096x128.size inx).toLoadRect l₁) fun v3 =>
        .op (.load bM (Rect.unit (s := S4096x128) ![0, 0] S4096x128.size inb).toLoadRect l₂) fun _ =>
        .op (.store bM (Rect.unit (s := S4096x128) ![0, 0] S4096x128.size inb) (k0_pay2 v3) Finset.univ s₁ s₂) k) Q := by
  unfold Start io
  iintro ⟨#Hrec, HO, ⟨%fg, Hg⟩, HtB, ⟨%fb, Hb⟩, ⟨%fw, Hw⟩, Ha, Htok, HtW, Hbar, HrA, HatS, HatW, Hx, Hout⟩
  ihave Hc := (records_at m ρ K (c, iW) (kcell_w c)) $$ Hrec
  icases Hc with ⟨#HI, #Hr⟩
  iapply (Rounds.wp_copy_pointsTo 𝒱₀ ER (meshRd m ρ) (c : Thread nD τ) none (src := hM) (dst := wM) (κ := K (c, iW)) (r := 0) (d := 0) (q := fullShare)
      (fs := wOf m ρ c) (fd := fw)
      (by rw [duties_w]; exact Finset.mem_singleton_self _) () NW rfl (amount_w m ρ c 0)
      (by rw [payload_w, copied]; unfold wPay; rw [View.set_whole, View.set_whole])) $$ [Ha Hw HtW]
  · isplitr; · iexact HI
    isplitl [Ha]; · rw [View.set_whole]; iexact Ha
    isplitl [Hw]; · rw [View.set_whole]; iexact Hw
    isplitl [HtW]; · iexact HtW
    iexact Hr
  iintro HcW
  iapply (wp_load 𝒱₀ (c : Thread nD τ) none Set.univ (m := xM) (Finset.subset_univ _)) $$ Hx; iintro Hx
  rw [show xM.view.readAt (Elt F) (Rect.unit (s := S4096x128) ![0, 0] S4096x128.size inx).toLoadRect (xstg m ρ c) = xstg m ρ c from
    Memref.readAt_unit_zero (Elt F) cc0_stg0_0 hz _ _]
  iapply (wp_load 𝒱₀ (c : Thread nD τ) none Set.univ (m := bM) (Finset.subset_univ _)) $$ Hb; iintro Hb
  iapply (wp_store 𝒱₀ (c : Thread nD τ) none Set.univ (m := bM) (r := Rect.unit (s := S4096x128) ![0, 0] S4096x128.size inb) (Mk := Finset.univ)
    (Finset.subset_univ _)) $$ Hb; iintro Hb
  rw [show (bM.access (Rect.unit (s := S4096x128) ![0, 0] S4096x128.size inb) : View sig .tc _ _ _).write (Elt F) fb (k0_pay2 (xstg m ρ c)) Finset.univ
      = castOf m ρ c from Memref.write_access_unit_zero_univ (Elt F) cc0_scratch0 hz _ _ _]
  iapply h
  unfold SigSt phase sigR
  isplitr; · iexact Hrec
  isplitl [HO]; · unfold O₀; iexact HO
  ihave Hcols := (Entails.of_eq ((cols_eq c fg).trans (around_own c _))) $$ Hg
  icases Hcols with ⟨Hown, Hcols⟩
  isplitl [Hcols HtB]
  · ihave HtB' := (Entails.of_eq (around_own c fun j => (dutyTok ER (barCell j) 0 c : sProp 𝕄))) $$ HtB
    icases HtB' with ⟨-, HtB'⟩
    unfold sigA
    rw [bigSep_sep']
    isplitl [HtB']; · iexact HtB'
    have heach : ∀ k, colPts c (sh c k) fg ⊢ (iprop(∃ f, colPts c (sh c k) f) : sProp 𝕄) := fun k => by
      iintro H; iexists fg; iexact H
    iapply (show bigSep (Finset.Ico 1 32) (fun k => colPts c (sh c k) fg) ⊢ (bigSep (Finset.Ico 1 32) (fun k => iprop(∃ f, colPts c (sh c k) f)) : sProp 𝕄) from
      bigSep_mono fun k _ => heach k)
    iexact Hcols
  isplitr
  · iapply (BI.bigSep_of_persistent (Finset.Ico 0 1) (iprop(emp) : sProp 𝕄)); iempintro
  isplitl [Hown]; · iexists fg; iexact Hown
  isplitl [Hb Htok]
  · ihave Hrows := (Entails.of_eq ((rows_eq c (castOf m ρ c)).trans (around c _))) $$ Hb
    ihave Htok' := (Entails.of_eq (around c fun j => (iprop(dutyTok ER (sendCell c j) 0 0 ∗ dutyTok ER (recvCell j c) 0 0) : sProp 𝕄))) $$ Htok
    iapply (Entails.of_eq (bigSep_sep' (Finset.Ico 0 32) (fun k => (rowPts c (sh c k) (castOf m ρ c) : sProp 𝕄))
      (fun k => iprop(dutyTok ER (sendCell c (sh c k)) 0 0 ∗ dutyTok ER (recvCell (sh c k) c) 0 0))).symm)
    isplitl [Hrows] <;> iassumption
  isplitl [Hbar]; · iexact Hbar
  isplitl [HrA]
  · unfold recvA
    rw [← around c (fun s => iprop(cred (tallyAt (recvCell c s) () N) ∗ atPos ER (recvCell c s) 0 ∅ 0))]
    iexact HrA
  isplitl [HatS]
  · rw [← around c (fun j => (atPos ER (sendCell c j) 0 ∅ 0 : sProp 𝕄))]; iexact HatS
  isplitl [HcW HatW]
  · unfold copying
    isplitl [HcW] <;> iassumption
  unfold io
  isplitl [Hx] <;> iassumption

/-! ## The last operations: wait for the copy, store the product -/

/-- What the body ends with: nothing owed; every semaphore at zero; the buffers; the result in its staging buffer. -/
def Finish (c : Dev nD) : sProp 𝕄 :=
  iprop((∃ W, owes (c : Thread nD τ) 0 W) ∗ semVal (barCell c) 0
    ∗ (bigSep Finset.univ fun s : Dev nD => semVal (recvCell c s) 0) ∗ (bigSep Finset.univ fun j : Dev nD => semVal (sendCell c j) 0) ∗ semVal (wCell c) 0
    ∗ (((c : Thread nD τ).loc cc0_scratch0) ↦{fullShare} castOf m ρ c) ∗ (((c : Thread nD τ).loc cc0_scratch1) ↦{fullShare} gathered m ρ c)
    ∗ wPay m ρ c
    ∗ (((c : Thread nD τ).loc cc0_stg0_0) ↦{fullShare} xstg m ρ c) ∗ (((c : Thread nD τ).loc cc0_stg1_0) ↦{fullShare} outAt m ρ c))

/-- The operations after the last wait for rows. -/
theorem last_ops {Q : α → sProp 𝕄} {ing inw ino} {h₁ h₂ l₁ l₂ l₃ s₁ s₂}
    (h : Finish m ρ c ⊢ wp frame (wpE (defs₀ (F := F)) 𝒱₀ (c : Thread nD τ) none) Set.univ (k ⟨⟩) Q) :
    BackSt m ρ K c (backR m ρ c) 32 ⊢ wp frame (wpE (defs₀ (F := F)) 𝒱₀ (c : Thread nD τ) none) Set.univ
      (.op (.waitDma2 wS hM wM h₁ h₂) fun _ =>
        .op (.load gM (Rect.unit (s := S128x4096) ![0, 0] S128x4096.size ing).toLoadRect l₁) fun v934 =>
        .op (.load wM (Rect.unit (s := S4096x2048) ![0, 0] S4096x2048.size inw).toLoadRect l₂) fun v936 =>
        .op (.load oM (Rect.unit (s := S128x2048) ![0, 0] S128x2048.size ino).toLoadRect l₃) fun _ =>
        .op (.store oM (Rect.unit (s := S128x2048) ![0, 0] S128x2048.size ino) (k0_pay1 v934 v936) Finset.univ s₁ s₂) k) Q := by
  unfold BackSt phase backR copying io
  iintro ⟨#Hrec, ⟨%W, HO⟩, -, HbB, Hbar, HrB, ⟨HcW, HatW⟩, Hx, ⟨%fo, Hout⟩⟩
  iapply (wait_one m ρ K (src := hM) (dst := wM) (kcell_w c) (duties_w m ρ c) (amount_w m ρ c 0) (payload_w m ρ c 0) rfl W) $$ [HO HcW HatW]
  · isplitr; · iexact Hrec
    isplitl [HO]; · iexact HO
    isplitl [HcW] <;> iassumption
  iintro ⟨HO, HP, Hzw⟩
  unfold recvB backB
  ihave HrB' := (Entails.of_eq (bigSep_sep' (Finset.Ico 0 32) (fun k => colPts c (sh c k) (gathered m ρ c)) (fun k => (semVal (recvCell c (sh c k)) 0 : sProp 𝕄)))) $$ HrB
  icases HrB' with ⟨Hcols, Hzr⟩
  ihave HbB' := (Entails.of_eq (bigSep_sep' (Finset.Ico 0 32) (fun k => rowPts c (sh c k) (castOf m ρ c)) (fun k => (semVal (sendCell c (sh c k)) 0 : sProp 𝕄)))) $$ HbB
  icases HbB' with ⟨Hrows, Hzs⟩
  ihave Hg := (Entails.of_eq ((cols_eq c (gathered m ρ c)).trans (around c _)).symm) $$ Hcols
  ihave Hb := (Entails.of_eq ((rows_eq c (castOf m ρ c)).trans (around c _)).symm) $$ Hrows
  unfold wPay
  icases HP with ⟨Hw, Ha⟩
  iapply (wp_load 𝒱₀ (c : Thread nD τ) none Set.univ (m := gM) (Finset.subset_univ _)) $$ Hg; iintro Hg
  rw [show gM.view.readAt (Elt F) (Rect.unit (s := S128x4096) ![0, 0] S128x4096.size ing).toLoadRect (gathered m ρ c) = gathered m ρ c from
    Memref.readAt_unit_zero (Elt F) cc0_scratch1 hz _ _]
  iapply (wp_load 𝒱₀ (c : Thread nD τ) none Set.univ (m := wM) (Finset.subset_univ _)) $$ Hw; iintro Hw
  rw [show wM.view.readAt (Elt F) (Rect.unit (s := S4096x2048) ![0, 0] S4096x2048.size inw).toLoadRect (wOf m ρ c) = wOf m ρ c from
    Memref.readAt_unit_zero (Elt F) cc0_scratch2 hz _ _]
  iapply (wp_load 𝒱₀ (c : Thread nD τ) none Set.univ (m := oM) (Finset.subset_univ _)) $$ Hout; iintro Hout
  iapply (wp_store 𝒱₀ (c : Thread nD τ) none Set.univ (m := oM) (r := Rect.unit (s := S128x2048) ![0, 0] S128x2048.size ino) (Mk := Finset.univ)
    (Finset.subset_univ _)) $$ Hout; iintro Hout
  rw [show (oM.access (Rect.unit (s := S128x2048) ![0, 0] S128x2048.size ino) : View sig .tc _ _ _).write (Elt F) fo (k0_pay1 (gathered m ρ c) (wOf m ρ c)) Finset.univ
      = outAt m ρ c from Memref.write_access_unit_zero_univ (Elt F) cc0_stg1_0 hz _ _ _]
  iapply h
  unfold Finish
  isplitl [HO]; · iexact HO
  isplitl [Hbar]; · iexact Hbar
  isplitl [Hzr]; · rw [around c]; iexact Hzr
  isplitl [Hzs]; · rw [around c]; iexact Hzs
  isplitl [Hzw]; · iexact Hzw
  isplitl [Hb]; · iexact Hb
  isplitl [Hg]; · iexact Hg
  isplitl [Hw Ha]
  · unfold wPay
    isplitl [Hw] <;> iassumption
  isplitl [Hx] <;> iassumption

end Ops

end Cert.AllToAll
-- ==== Proof.Parts.lean ====
/-
  The parts of the body, each carried through by the step lemmas: parts 1 to 6 signal, parts 6 to 17 send, parts 18 to 27
  wait for the blocks, parts 27 to 30 wait for the rows. Each lemma says: what holds after the part being enough for what
  follows, what holds before it is enough for the part and what follows.
-/
module

public import proofs.«01_k».proof.Proof.Turns

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 66 → ℕ)
variable {c : Dev nD} {α : Type}

/-- What a program of device `c` is enough for. -/
abbrev wpc (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Signals -/

/-- Part 1: the copy of `w` started, `x` cast, 4 signals. -/
theorem part1_run {k : (Σ' (_ : Dev nD) (_ : BitVec 32) (_ : Sems sig S_), BitVec 32) → Prog (TpuEff nD τ sig (Elt F) Λ₀ .tc) α} {Q : α → sProp 𝕄}
    (h : ∀ v2 v, SigSt m ρ K c (sigR m ρ c) 5 ⊢ wpc c (k ⟨c, v2, SemArray.scalar (sig.barrier 0 rfl), v⟩) Q) :
    Start m ρ K c ⊢ wpc c (k0_part1 xM (Memref.isWhole_whole _) hM (Memref.isWhole_whole _) oM (Memref.isWhole_whole _) bM (Memref.isWhole_whole _) gM (Memref.isWhole_whole _) wM (Memref.isWhole_whole _) cc0_scratch3 cc0_scratch4 cc0_scratch5 >>= k) Q := by
  unfold wpc
  rw [k0_part1_eq_skeleton]; unfold k0_part1_skel
  simp only [semSignalWord, semWaitWord, Prog.lift, Prog.bind_op, Prog.bind_ret, Prog.pure_eq_ret, wp_deviceId]
  refine first_ops m ρ K ?_
  refine sig_step m ρ K 1 (by decide) (by decide) (k0_dev1_eq c) ?_
  refine sig_step m ρ K 2 (by decide) (by decide) (k0_dev2_eq c) ?_
  refine sig_step m ρ K 3 (by decide) (by decide) (k0_dev3_eq c) ?_
  refine sig_step m ρ K 4 (by decide) (by decide) (k0_dev4_eq c) ?_
  exact h _ _

/-- Part 2: 6 signals. -/
theorem part2_run {v2 v : BitVec 32} {k : (BitVec 32) → Prog (TpuEff nD τ sig (Elt F) Λ₀ .tc) α} {Q : α → sProp 𝕄}
    (h : ∀ v, SigSt m ρ K c (sigR m ρ c) 11 ⊢ wpc c (k v) Q) :
    SigSt m ρ K c (sigR m ρ c) 5 ⊢ wpc c (k0_part2 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 (SemArray.scalar (sig.barrier 0 rfl)) v >>= k) Q := by
  unfold wpc
  rw [k0_part2_eq_skeleton]; unfold k0_part2_skel
  simp only [semSignalWord, semWaitWord, Prog.lift, Prog.bind_op, Prog.bind_ret, Prog.pure_eq_ret, wp_deviceId]
  refine sig_step m ρ K 5 (by decide) (by decide) (k0_dev5_eq c) ?_
  refine sig_step m ρ K 6 (by decide) (by decide) (k0_dev6_eq c) ?_
  refine sig_step m ρ K 7 (by decide) (by decide) (k0_dev7_eq c) ?_
  refine sig_step m ρ K 8 (by decide) (by decide) (k0_dev8_eq c) ?_
  refine sig_step m ρ K 9 (by decide) (by decide) (k0_dev9_eq c) ?_
  refine sig_step m ρ K 10 (by decide) (by decide) (k0_dev10_eq c) ?_
  exact h _

/-- Part 3: 6 signals. -/
theorem part3_run {v2 v : BitVec 32} {k : (BitVec 32) → Prog (TpuEff nD τ sig (Elt F) Λ₀ .tc) α} {Q : α → sProp 𝕄}
    (h : ∀ v, SigSt m ρ K c (sigR m ρ c) 17 ⊢ wpc c (k v) Q) :
    SigSt m ρ K c (sigR m ρ c) 11 ⊢ wpc c (k0_part3 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 (SemArray.scalar (sig.barrier 0 rfl)) v >>= k) Q := by
  unfold wpc
  rw [k0_part3_eq_skeleton]; unfold k0_part3_skel
  simp only [semSignalWord, semWaitWord, Prog.lift, Prog.bind_op, Prog.bind_ret, Prog.pure_eq_ret, wp_deviceId]
  refine sig_step m ρ K 11 (by decide) (by decide) (k0_dev11_eq c) ?_
  refine sig_step m ρ K 12 (by decide) (by decide) (k0_dev12_eq c) ?_
  refine sig_step m ρ K 13 (by decide) (by decide) (k0_dev13_eq c) ?_
  refine sig_step m ρ K 14 (by decide) (by decide) (k0_dev14_eq c) ?_
  refine sig_step m ρ K 15 (by decide) (by decide) (k0_dev15_eq c) ?_
  refine sig_step m ρ K 16 (by decide) (by decide) (k0_dev16_eq c) ?_
  exact h _

/-- Part 4: 6 signals. -/
theorem part4_run {v2 v : BitVec 32} {k : (BitVec 32) → Prog (TpuEff nD τ sig (Elt F) Λ₀ .tc) α} {Q : α → sProp 𝕄}
    (h : ∀ v, SigSt m ρ K c (sigR m ρ c) 23 ⊢ wpc c (k v) Q) :
    SigSt m ρ K c (sigR m ρ c) 17 ⊢ wpc c (k0_part4 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 (SemArray.scalar (sig.barrier 0 rfl)) v >>= k) Q := by
  unfold wpc
  rw [k0_part4_eq_skeleton]; unfold k0_part4_skel
  simp only [semSignalWord, semWaitWord, Prog.lift, Prog.bind_op, Prog.bind_ret, Prog.pure_eq_ret, wp_deviceId]
  refine sig_step m ρ K 17 (by decide) (by decide) (k0_dev17_eq c) ?_
  refine sig_step m ρ K 18 (by decide) (by decide) (k0_dev18_eq c) ?_
  refine sig_step m ρ K 19 (by decide) (by decide) (k0_dev19_eq c) ?_
  refine sig_step m ρ K 20 (by decide) (by decide) (k0_dev20_eq c) ?_
  refine sig_step m ρ K 21 (by decide) (by decide) (k0_dev21_eq c) ?_
  refine sig_step m ρ K 22 (by decide) (by decide) (k0_dev22_eq c) ?_
  exact h _

/-- Part 5: 6 signals. -/
theorem part5_run {v2 v : BitVec 32} {k : (BitVec 32) → Prog (TpuEff nD τ sig (Elt F) Λ₀ .tc) α} {Q : α → sProp 𝕄}
    (h : ∀ v, SigSt m ρ K c (sigR m ρ c) 29 ⊢ wpc c (k v) Q) :
    SigSt m ρ K c (sigR m ρ c) 23 ⊢ wpc c (k0_part5 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 (SemArray.scalar (sig.barrier 0 rfl)) v >>= k) Q := by
  unfold wpc
  rw [k0_part5_eq_skeleton]; unfold k0_part5_skel
  simp only [semSignalWord, semWaitWord, Prog.lift, Prog.bind_op, Prog.bind_ret, Prog.pure_eq_ret, wp_deviceId]
  refine sig_step m ρ K 23 (by decide) (by decide) (k0_dev23_eq c) ?_
  refine sig_step m ρ K 24 (by decide) (by decide) (k0_dev24_eq c) ?_
  refine sig_step m ρ K 25 (by decide) (by decide) (k0_dev25_eq c) ?_
  refine sig_step m ρ K 26 (by decide) (by decide) (k0_dev26_eq c) ?_
  refine sig_step m ρ K 27 (by decide) (by decide) (k0_dev27_eq c) ?_
  refine sig_step m ρ K 28 (by decide) (by decide) (k0_dev28_eq c) ?_
  exact h _

/-! ## The barrier, and sends -/

/-- Part 6: 3 signals, 1 send. -/
theorem part6_run {v2 v : BitVec 32} {k : (Σ' (_ : BitVec 32), BitVec 32) → Prog (TpuEff nD τ sig (Elt F) Λ₀ .tc) α} {Q : α → sProp 𝕄}
    (h : ∀ v, SendSt m ρ K c (sendR m ρ c) 1 ⊢ wpc c (k v) Q) :
    SigSt m ρ K c (sigR m ρ c) 29 ⊢ wpc c (k0_part6 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 (SemArray.scalar (sig.barrier 0 rfl)) v >>= k) Q := by
  unfold wpc
  rw [k0_part6_eq_skeleton]; unfold k0_part6_skel
  simp only [semSignalWord, semWaitWord, Prog.lift, Prog.bind_op, Prog.bind_ret, Prog.pure_eq_ret, wp_deviceId]
  refine sig_step m ρ K 29 (by decide) (by decide) (k0_dev29_eq c) ?_
  refine sig_step m ρ K 30 (by decide) (by decide) (k0_dev30_eq c) ?_
  refine sig_step m ρ K 31 (by decide) (by decide) (k0_dev31_eq c) ?_
  refine bar_step m ρ K ?_
  refine send_step m ρ K 0 (by decide) ((k0_dev32_eq c).trans (Nat.mod_eq_of_lt c.isLt).symm) ?_
  exact h _

/-- Part 7: 3 sends. -/
theorem part7_run {v2 v v' : BitVec 32} {k : (BitVec 32) → Prog (TpuEff nD τ sig (Elt F) Λ₀ .tc) α} {Q : α → sProp 𝕄}
    (h : ∀ v, SendSt m ρ K c (sendR m ρ c) 4 ⊢ wpc c (k v) Q) :
    SendSt m ρ K c (sendR m ρ c) 1 ⊢ wpc c (k0_part7 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v v' >>= k) Q := by
  unfold wpc
  rw [k0_part7_eq_skeleton]; unfold k0_part7_skel
  simp only [semSignalWord, semWaitWord, Prog.lift, Prog.bind_op, Prog.bind_ret, Prog.pure_eq_ret, wp_deviceId]
  refine send_step m ρ K 1 (by decide) (k0_dev33_eq c) ?_
  refine send_step m ρ K 2 (by decide) (k0_dev34_eq c) ?_
  refine send_step m ρ K 3 (by decide) (k0_dev35_eq c) ?_
  exact h _

/-- Part 8: 3 sends. -/
theorem part8_run {v2 v : BitVec 32} {k : (BitVec 32) → Prog (TpuEff nD τ sig (Elt F) Λ₀ .tc) α} {Q : α → sProp 𝕄}
    (h : ∀ v, SendSt m ρ K c (sendR m ρ c) 7 ⊢ wpc c (k v) Q) :
    SendSt m ρ K c (sendR m ρ c) 4 ⊢ wpc c (k0_part8 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part8_eq_skeleton]; unfold k0_part8_skel
  simp only [semSignalWord, semWaitWord, Prog.lift, Prog.bind_op, Prog.bind_ret, Prog.pure_eq_ret, wp_deviceId]
  refine send_step m ρ K 4 (by decide) (k0_dev36_eq c) ?_
  refine send_step m ρ K 5 (by decide) (k0_dev37_eq c) ?_
  refine send_step m ρ K 6 (by decide) (k0_dev38_eq c) ?_
  exact h _

/-- Part 9: 2 sends. -/
theorem part9_run {v2 v : BitVec 32} {k : (PUnit.{1}) → Prog (TpuEff nD τ sig (Elt F) Λ₀ .tc) α} {Q : α → sProp 𝕄}
    (h : SendSt m ρ K c (sendR m ρ c) 9 ⊢ wpc c (k ⟨⟩) Q) :
    SendSt m ρ K c (sendR m ρ c) 7 ⊢ wpc c (k0_part9 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part9_eq_skeleton]; unfold k0_part9_skel
  simp only [semSignalWord, semWaitWord, Prog.lift, Prog.bind_op, Prog.bind_ret, Prog.pure_eq_ret, wp_deviceId]
  refine send_step m ρ K 7 (by decide) (k0_dev39_eq c) ?_
  refine send_step m ρ K 8 (by decide) (k0_dev40_eq c) ?_
  exact h

/-- Part 10: 3 sends. -/
theorem part10_run {v2 : BitVec 32} {k : (PUnit.{1}) → Prog (TpuEff nD τ sig (Elt F) Λ₀ .tc) α} {Q : α → sProp 𝕄}
    (h : SendSt m ρ K c (sendR m ρ c) 12 ⊢ wpc c (k ⟨⟩) Q) :
    SendSt m ρ K c (sendR m ρ c) 9 ⊢ wpc c (k0_part10 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part10_eq_skeleton]; unfold k0_part10_skel
  simp only [semSignalWord, semWaitWord, Prog.lift, Prog.bind_op, Prog.bind_ret, Prog.pure_eq_ret, wp_deviceId]
  refine send_step m ρ K 9 (by decide) (k0_dev41_eq c) ?_
  refine send_step m ρ K 10 (by decide) (k0_dev42_eq c) ?_
  refine send_step m ρ K 11 (by decide) (k0_dev43_eq c) ?_
  exact h

/-- Part 11: 3 sends. -/
theorem part11_run {v2 : BitVec 32} {k : (PUnit.{1}) → Prog (TpuEff nD τ sig (Elt F) Λ₀ .tc) α} {Q : α → sProp 𝕄}
    (h : SendSt m ρ K c (sendR m ρ c) 15 ⊢ wpc c (k ⟨⟩) Q) :
    SendSt m ρ K c (sendR m ρ c) 12 ⊢ wpc c (k0_part11 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part11_eq_skeleton]; unfold k0_part11_skel
  simp only [semSignalWord, semWaitWord, Prog.lift, Prog.bind_op, Prog.bind_ret, Prog.pure_eq_ret, wp_deviceId]
  refine send_step m ρ K 12 (by decide) (k0_dev44_eq c) ?_
  refine send_step m ρ K 13 (by decide) (k0_dev45_eq c) ?_
  refine send_step m ρ K 14 (by decide) (k0_dev46_eq c) ?_
  exact h

/-- Part 12: 3 sends. -/
theorem part12_run {v2 : BitVec 32} {k : (BitVec 32) → Prog (TpuEff nD τ sig (Elt F) Λ₀ .tc) α} {Q : α → sProp 𝕄}
    (h : ∀ v, SendSt m ρ K c (sendR m ρ c) 18 ⊢ wpc c (k v) Q) :
    SendSt m ρ K c (sendR m ρ c) 15 ⊢ wpc c (k0_part12 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part12_eq_skeleton]; unfold k0_part12_skel
  simp only [semSignalWord, semWaitWord, Prog.lift, Prog.bind_op, Prog.bind_ret, Prog.pure_eq_ret, wp_deviceId]
  refine send_step m ρ K 15 (by decide) (k0_dev47_eq c) ?_
  refine send_step m ρ K 16 (by decide) (k0_dev48_eq c) ?_
  refine send_step m ρ K 17 (by decide) (k0_dev49_eq c) ?_
  exact h _

/-- Part 13: 3 sends. -/
theorem part13_run {v2 v : BitVec 32} {k : (Σ' (_ : BitVec 32), BitVec 32) → Prog (TpuEff nD τ sig (Elt F) Λ₀ .tc) α} {Q : α → sProp 𝕄}
    (h : ∀ v, SendSt m ρ K c (sendR m ρ c) 21 ⊢ wpc c (k v) Q) :
    SendSt m ρ K c (sendR m ρ c) 18 ⊢ wpc c (k0_part13 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part13_eq_skeleton]; unfold k0_part13_skel
  simp only [semSignalWord, semWaitWord, Prog.lift, Prog.bind_op, Prog.bind_ret, Prog.pure_eq_ret, wp_deviceId]
  refine send_step m ρ K 18 (by decide) (k0_dev50_eq c) ?_
  refine send_step m ρ K 19 (by decide) (k0_dev51_eq c) ?_
  refine send_step m ρ K 20 (by decide) (k0_dev52_eq c) ?_
  exact h _

/-- Part 14: 3 sends. -/
theorem part14_run {v2 v v' : BitVec 32} {k : (BitVec 32) → Prog (TpuEff nD τ sig (Elt F) Λ₀ .tc) α} {Q : α → sProp 𝕄}
    (h : ∀ v, SendSt m ρ K c (sendR m ρ c) 24 ⊢ wpc c (k v) Q) :
    SendSt m ρ K c (sendR m ρ c) 21 ⊢ wpc c (k0_part14 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v v' >>= k) Q := by
  unfold wpc
  rw [k0_part14_eq_skeleton]; unfold k0_part14_skel
  simp only [semSignalWord, semWaitWord, Prog.lift, Prog.bind_op, Prog.bind_ret, Prog.pure_eq_ret, wp_deviceId]
  refine send_step m ρ K 21 (by decide) (k0_dev53_eq c) ?_
  refine send_step m ρ K 22 (by decide) (k0_dev54_eq c) ?_
  refine send_step m ρ K 23 (by decide) (k0_dev55_eq c) ?_
  exact h _

/-- Part 15: 3 sends. -/
theorem part15_run {v2 v : BitVec 32} {k : (BitVec 32) → Prog (TpuEff nD τ sig (Elt F) Λ₀ .tc) α} {Q : α → sProp 𝕄}
    (h : ∀ v, SendSt m ρ K c (sendR m ρ c) 27 ⊢ wpc c (k v) Q) :
    SendSt m ρ K c (sendR m ρ c) 24 ⊢ wpc c (k0_part15 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part15_eq_skeleton]; unfold k0_part15_skel
  simp only [semSignalWord, semWaitWord, Prog.lift, Prog.bind_op, Prog.bind_ret, Prog.pure_eq_ret, wp_deviceId]
  refine send_step m ρ K 24 (by decide) (k0_dev56_eq c) ?_
  refine send_step m ρ K 25 (by decide) (k0_dev57_eq c) ?_
  refine send_step m ρ K 26 (by decide) (k0_dev58_eq c) ?_
  exact h _

/-- Part 16: 2 sends. -/
theorem part16_run {v2 v : BitVec 32} {k : (PUnit.{1}) → Prog (TpuEff nD τ sig (Elt F) Λ₀ .tc) α} {Q : α → sProp 𝕄}
    (h : SendSt m ρ K c (sendR m ρ c) 29 ⊢ wpc c (k ⟨⟩) Q) :
    SendSt m ρ K c (sendR m ρ c) 27 ⊢ wpc c (k0_part16 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part16_eq_skeleton]; unfold k0_part16_skel
  simp only [semSignalWord, semWaitWord, Prog.lift, Prog.bind_op, Prog.bind_ret, Prog.pure_eq_ret, wp_deviceId]
  refine send_step m ρ K 27 (by decide) (k0_dev59_eq c) ?_
  refine send_step m ρ K 28 (by decide) (k0_dev60_eq c) ?_
  exact h

/-- Part 17: 3 sends. -/
theorem part17_run {v2 : BitVec 32} {k : (PUnit.{1}) → Prog (TpuEff nD τ sig (Elt F) Λ₀ .tc) α} {Q : α → sProp 𝕄}
    (h : RecvSt m ρ K c (recvR m ρ c) 0 ⊢ wpc c (k ⟨⟩) Q) :
    SendSt m ρ K c (sendR m ρ c) 29 ⊢ wpc c (k0_part17 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part17_eq_skeleton]; unfold k0_part17_skel
  simp only [semSignalWord, semWaitWord, Prog.lift, Prog.bind_op, Prog.bind_ret, Prog.pure_eq_ret, wp_deviceId]
  refine send_step m ρ K 29 (by decide) (k0_dev61_eq c) ?_
  refine send_step m ρ K 30 (by decide) (k0_dev62_eq c) ?_
  refine send_step m ρ K 31 (by decide) (k0_dev63_eq c) ?_
  refine (send_done m ρ K c).trans ?_
  exact h

/-! ## Waits for the blocks -/

/-- Part 18: 4 receipts. -/
theorem part18_run {v2 : BitVec 32} {k : (BitVec 32) → Prog (TpuEff nD τ sig (Elt F) Λ₀ .tc) α} {Q : α → sProp 𝕄}
    (h : ∀ v, RecvSt m ρ K c (recvR m ρ c) 4 ⊢ wpc c (k v) Q) :
    RecvSt m ρ K c (recvR m ρ c) 0 ⊢ wpc c (k0_part18 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part18_eq_skeleton]; unfold k0_part18_skel
  simp only [semSignalWord, semWaitWord, Prog.lift, Prog.bind_op, Prog.bind_ret, Prog.pure_eq_ret, wp_deviceId]
  refine recv_step m ρ K 0 (by decide) ?_
  refine recv_step m ρ K 1 (by decide) ?_
  refine recv_step m ρ K 2 (by decide) ?_
  refine recv_step m ρ K 3 (by decide) ?_
  exact h _

/-- Part 19: 3 receipts. -/
theorem part19_run {v2 v : BitVec 32} {k : (PUnit.{1}) → Prog (TpuEff nD τ sig (Elt F) Λ₀ .tc) α} {Q : α → sProp 𝕄}
    (h : RecvSt m ρ K c (recvR m ρ c) 7 ⊢ wpc c (k ⟨⟩) Q) :
    RecvSt m ρ K c (recvR m ρ c) 4 ⊢ wpc c (k0_part19 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part19_eq_skeleton]; unfold k0_part19_skel
  simp only [semSignalWord, semWaitWord, Prog.lift, Prog.bind_op, Prog.bind_ret, Prog.pure_eq_ret, wp_deviceId]
  refine recv_step m ρ K 4 (by decide) ?_
  refine recv_step m ρ K 5 (by decide) ?_
  refine recv_step m ρ K 6 (by decide) ?_
  exact h

/-- Part 20: 3 receipts. -/
theorem part20_run {v2 : BitVec 32} {k : (PUnit.{1}) → Prog (TpuEff nD τ sig (Elt F) Λ₀ .tc) α} {Q : α → sProp 𝕄}
    (h : RecvSt m ρ K c (recvR m ρ c) 10 ⊢ wpc c (k ⟨⟩) Q) :
    RecvSt m ρ K c (recvR m ρ c) 7 ⊢ wpc c (k0_part20 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part20_eq_skeleton]; unfold k0_part20_skel
  simp only [semSignalWord, semWaitWord, Prog.lift, Prog.bind_op, Prog.bind_ret, Prog.pure_eq_ret, wp_deviceId]
  refine recv_step m ρ K 7 (by decide) ?_
  refine recv_step m ρ K 8 (by decide) ?_
  refine recv_step m ρ K 9 (by decide) ?_
  exact h

/-- Part 21: 4 receipts. -/
theorem part21_run {v2 : BitVec 32} {k : (BitVec 32) → Prog (TpuEff nD τ sig (Elt F) Λ₀ .tc) α} {Q : α → sProp 𝕄}
    (h : ∀ v, RecvSt m ρ K c (recvR m ρ c) 14 ⊢ wpc c (k v) Q) :
    RecvSt m ρ K c (recvR m ρ c) 10 ⊢ wpc c (k0_part21 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part21_eq_skeleton]; unfold k0_part21_skel
  simp only [semSignalWord, semWaitWord, Prog.lift, Prog.bind_op, Prog.bind_ret, Prog.pure_eq_ret, wp_deviceId]
  refine recv_step m ρ K 10 (by decide) ?_
  refine recv_step m ρ K 11 (by decide) ?_
  refine recv_step m ρ K 12 (by decide) ?_
  refine recv_step m ρ K 13 (by decide) ?_
  exact h _

/-- Part 22: 3 receipts. -/
theorem part22_run {v2 v : BitVec 32} {k : (PUnit.{1}) → Prog (TpuEff nD τ sig (Elt F) Λ₀ .tc) α} {Q : α → sProp 𝕄}
    (h : RecvSt m ρ K c (recvR m ρ c) 17 ⊢ wpc c (k ⟨⟩) Q) :
    RecvSt m ρ K c (recvR m ρ c) 14 ⊢ wpc c (k0_part22 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part22_eq_skeleton]; unfold k0_part22_skel
  simp only [semSignalWord, semWaitWord, Prog.lift, Prog.bind_op, Prog.bind_ret, Prog.pure_eq_ret, wp_deviceId]
  refine recv_step m ρ K 14 (by decide) ?_
  refine recv_step m ρ K 15 (by decide) ?_
  refine recv_step m ρ K 16 (by decide) ?_
  exact h

/-- Part 23: 3 receipts. -/
theorem part23_run {v2 : BitVec 32} {k : (PUnit.{1}) → Prog (TpuEff nD τ sig (Elt F) Λ₀ .tc) α} {Q : α → sProp 𝕄}
    (h : RecvSt m ρ K c (recvR m ρ c) 20 ⊢ wpc c (k ⟨⟩) Q) :
    RecvSt m ρ K c (recvR m ρ c) 17 ⊢ wpc c (k0_part23 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part23_eq_skeleton]; unfold k0_part23_skel
  simp only [semSignalWord, semWaitWord, Prog.lift, Prog.bind_op, Prog.bind_ret, Prog.pure_eq_ret, wp_deviceId]
  refine recv_step m ρ K 17 (by decide) ?_
  refine recv_step m ρ K 18 (by decide) ?_
  refine recv_step m ρ K 19 (by decide) ?_
  exact h

/-- Part 24: 4 receipts. -/
theorem part24_run {v2 : BitVec 32} {k : (BitVec 32) → Prog (TpuEff nD τ sig (Elt F) Λ₀ .tc) α} {Q : α → sProp 𝕄}
    (h : ∀ v, RecvSt m ρ K c (recvR m ρ c) 24 ⊢ wpc c (k v) Q) :
    RecvSt m ρ K c (recvR m ρ c) 20 ⊢ wpc c (k0_part24 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part24_eq_skeleton]; unfold k0_part24_skel
  simp only [semSignalWord, semWaitWord, Prog.lift, Prog.bind_op, Prog.bind_ret, Prog.pure_eq_ret, wp_deviceId]
  refine recv_step m ρ K 20 (by decide) ?_
  refine recv_step m ρ K 21 (by decide) ?_
  refine recv_step m ρ K 22 (by decide) ?_
  refine recv_step m ρ K 23 (by decide) ?_
  exact h _

/-- Part 25: 3 receipts. -/
theorem part25_run {v2 v : BitVec 32} {k : (PUnit.{1}) → Prog (TpuEff nD τ sig (Elt F) Λ₀ .tc) α} {Q : α → sProp 𝕄}
    (h : RecvSt m ρ K c (recvR m ρ c) 27 ⊢ wpc c (k ⟨⟩) Q) :
    RecvSt m ρ K c (recvR m ρ c) 24 ⊢ wpc c (k0_part25 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 v >>= k) Q := by
  unfold wpc
  rw [k0_part25_eq_skeleton]; unfold k0_part25_skel
  simp only [semSignalWord, semWaitWord, Prog.lift, Prog.bind_op, Prog.bind_ret, Prog.pure_eq_ret, wp_deviceId]
  refine recv_step m ρ K 24 (by decide) ?_
  refine recv_step m ρ K 25 (by decide) ?_
  refine recv_step m ρ K 26 (by decide) ?_
  exact h

/-- Part 26: 3 receipts. -/
theorem part26_run {v2 : BitVec 32} {k : (PUnit.{1}) → Prog (TpuEff nD τ sig (Elt F) Λ₀ .tc) α} {Q : α → sProp 𝕄}
    (h : RecvSt m ρ K c (recvR m ρ c) 30 ⊢ wpc c (k ⟨⟩) Q) :
    RecvSt m ρ K c (recvR m ρ c) 27 ⊢ wpc c (k0_part26 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part26_eq_skeleton]; unfold k0_part26_skel
  simp only [semSignalWord, semWaitWord, Prog.lift, Prog.bind_op, Prog.bind_ret, Prog.pure_eq_ret, wp_deviceId]
  refine recv_step m ρ K 27 (by decide) ?_
  refine recv_step m ρ K 28 (by decide) ?_
  refine recv_step m ρ K 29 (by decide) ?_
  exact h

/-- Part 27: 2 receipts, 5 returns of rows. -/
theorem part27_run {v2 : BitVec 32} {k : (PUnit.{1}) → Prog (TpuEff nD τ sig (Elt F) Λ₀ .tc) α} {Q : α → sProp 𝕄}
    (h : BackSt m ρ K c (backR m ρ c) 5 ⊢ wpc c (k ⟨⟩) Q) :
    RecvSt m ρ K c (recvR m ρ c) 30 ⊢ wpc c (k0_part27 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c v2 >>= k) Q := by
  unfold wpc
  rw [k0_part27_eq_skeleton]; unfold k0_part27_skel
  simp only [semSignalWord, semWaitWord, Prog.lift, Prog.bind_op, Prog.bind_ret, Prog.pure_eq_ret, wp_deviceId]
  refine recv_step m ρ K 30 (by decide) ?_
  refine recv_step m ρ K 31 (by decide) ?_
  refine (recv_done m ρ K c).trans ?_
  refine back_step m ρ K 0 (by decide) ?_
  refine back_step m ρ K 1 (by decide) ?_
  refine back_step m ρ K 2 (by decide) ?_
  refine back_step m ρ K 3 (by decide) ?_
  refine back_step m ρ K 4 (by decide) ?_
  exact h

/-! ## Waits for the rows -/

/-- Part 28: 7 returns of rows. -/
theorem part28_run {k : (PUnit.{1}) → Prog (TpuEff nD τ sig (Elt F) Λ₀ .tc) α} {Q : α → sProp 𝕄}
    (h : BackSt m ρ K c (backR m ρ c) 12 ⊢ wpc c (k ⟨⟩) Q) :
    BackSt m ρ K c (backR m ρ c) 5 ⊢ wpc c (k0_part28 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c >>= k) Q := by
  unfold wpc
  rw [k0_part28_eq_skeleton]; unfold k0_part28_skel
  simp only [semSignalWord, semWaitWord, Prog.lift, Prog.bind_op, Prog.bind_ret, Prog.pure_eq_ret, wp_deviceId]
  refine back_step m ρ K 5 (by decide) ?_
  refine back_step m ρ K 6 (by decide) ?_
  refine back_step m ρ K 7 (by decide) ?_
  refine back_step m ρ K 8 (by decide) ?_
  refine back_step m ρ K 9 (by decide) ?_
  refine back_step m ρ K 10 (by decide) ?_
  refine back_step m ρ K 11 (by decide) ?_
  exact h

/-- Part 29: 8 returns of rows. -/
theorem part29_run {k : (PUnit.{1}) → Prog (TpuEff nD τ sig (Elt F) Λ₀ .tc) α} {Q : α → sProp 𝕄}
    (h : BackSt m ρ K c (backR m ρ c) 20 ⊢ wpc c (k ⟨⟩) Q) :
    BackSt m ρ K c (backR m ρ c) 12 ⊢ wpc c (k0_part29 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c >>= k) Q := by
  unfold wpc
  rw [k0_part29_eq_skeleton]; unfold k0_part29_skel
  simp only [semSignalWord, semWaitWord, Prog.lift, Prog.bind_op, Prog.bind_ret, Prog.pure_eq_ret, wp_deviceId]
  refine back_step m ρ K 12 (by decide) ?_
  refine back_step m ρ K 13 (by decide) ?_
  refine back_step m ρ K 14 (by decide) ?_
  refine back_step m ρ K 15 (by decide) ?_
  refine back_step m ρ K 16 (by decide) ?_
  refine back_step m ρ K 17 (by decide) ?_
  refine back_step m ρ K 18 (by decide) ?_
  refine back_step m ρ K 19 (by decide) ?_
  exact h

/-- Part 30: 7 returns of rows. -/
theorem part30_run {k : (PUnit.{1}) → Prog (TpuEff nD τ sig (Elt F) Λ₀ .tc) α} {Q : α → sProp 𝕄}
    (h : BackSt m ρ K c (backR m ρ c) 27 ⊢ wpc c (k ⟨⟩) Q) :
    BackSt m ρ K c (backR m ρ c) 20 ⊢ wpc c (k0_part30 xM (Memref.isWhole_whole _) hM (Memref.isWhole_whole _) oM (Memref.isWhole_whole _) bM (Memref.isWhole_whole _) gM (Memref.isWhole_whole _) wM (Memref.isWhole_whole _) cc0_scratch3 cc0_scratch4 cc0_scratch5 c >>= k) Q := by
  unfold wpc
  rw [k0_part30_eq_skeleton]; unfold k0_part30_skel
  simp only [semSignalWord, semWaitWord, Prog.lift, Prog.bind_op, Prog.bind_ret, Prog.pure_eq_ret, wp_deviceId]
  refine back_step m ρ K 20 (by decide) ?_
  refine back_step m ρ K 21 (by decide) ?_
  refine back_step m ρ K 22 (by decide) ?_
  refine back_step m ρ K 23 (by decide) ?_
  refine back_step m ρ K 24 (by decide) ?_
  refine back_step m ρ K 25 (by decide) ?_
  refine back_step m ρ K 26 (by decide) ?_
  exact h

/-! ## All of them, and the body -/

/-- Part 31: all parts before it, then 4 returns of rows. -/
theorem part31_run {k : Dev nD → Prog (TpuEff nD τ sig (Elt F) Λ₀ .tc) α} {Q : α → sProp 𝕄}
    (h : BackSt m ρ K c (backR m ρ c) 31 ⊢ wpc c (k c) Q) :
    Start m ρ K c ⊢ wpc c (k0_part31 xM (Memref.isWhole_whole _) hM (Memref.isWhole_whole _) oM (Memref.isWhole_whole _) bM (Memref.isWhole_whole _) gM (Memref.isWhole_whole _) wM (Memref.isWhole_whole _) cc0_scratch3 cc0_scratch4 cc0_scratch5 >>= k) Q := by
  rw [k0_part31_eq_skeleton]; unfold k0_part31_skel
  simp only [Prog.bind_assoc]
  refine part1_run m ρ K (fun _ _ => ?_)
  refine part2_run m ρ K (fun _ => ?_)
  refine part3_run m ρ K (fun _ => ?_)
  refine part4_run m ρ K (fun _ => ?_)
  refine part5_run m ρ K (fun _ => ?_)
  refine part6_run m ρ K (fun _ => ?_)
  refine part7_run m ρ K (fun _ => ?_)
  refine part8_run m ρ K (fun _ => ?_)
  refine part9_run m ρ K (?_)
  refine part10_run m ρ K (?_)
  refine part11_run m ρ K (?_)
  refine part12_run m ρ K (fun _ => ?_)
  refine part13_run m ρ K (fun _ => ?_)
  refine part14_run m ρ K (fun _ => ?_)
  refine part15_run m ρ K (fun _ => ?_)
  refine part16_run m ρ K (?_)
  refine part17_run m ρ K (?_)
  refine part18_run m ρ K (fun _ => ?_)
  refine part19_run m ρ K (?_)
  refine part20_run m ρ K (?_)
  refine part21_run m ρ K (fun _ => ?_)
  refine part22_run m ρ K (?_)
  refine part23_run m ρ K (?_)
  refine part24_run m ρ K (fun _ => ?_)
  refine part25_run m ρ K (?_)
  refine part26_run m ρ K (?_)
  refine part27_run m ρ K (?_)
  refine part28_run m ρ K (?_)
  refine part29_run m ρ K (?_)
  refine part30_run m ρ K (?_)
  unfold wpc
  simp only [semSignalWord, semWaitWord, Prog.lift, Prog.bind_op, Prog.bind_ret, Prog.pure_eq_ret, wp_deviceId]
  refine back_step m ρ K 27 (by decide) ?_
  refine back_step m ρ K 28 (by decide) ?_
  refine back_step m ρ K 29 (by decide) ?_
  refine back_step m ρ K 30 (by decide) ?_
  exact h

/-- The body, from what it starts with to what it ends with. -/
theorem body_run {Q : PUnit.{1} → sProp 𝕄} (h : Finish m ρ c ⊢ Q ⟨⟩) :
    Start m ρ K c ⊢ wpc c (cc0_body xM (Memref.isWhole_whole _) hM (Memref.isWhole_whole _) oM (Memref.isWhole_whole _) bM (Memref.isWhole_whole _) gM (Memref.isWhole_whole _) wM (Memref.isWhole_whole _) cc0_scratch3 cc0_scratch4 cc0_scratch5) Q := by
  rw [cc0_body_eq_skeleton]; unfold cc0_body_skel
  refine part31_run m ρ K ?_
  unfold wpc
  simp only [semSignalWord, semWaitWord, Prog.lift, Prog.bind_op, Prog.bind_ret, Prog.pure_eq_ret, wp_deviceId]
  refine back_step m ρ K 31 (by decide) ?_
  refine last_ops m ρ K ?_
  rw [wp_ret]
  iintro H
  imodintro
  iapply h
  iexact H

end Cert.AllToAll
-- ==== Proof.Deal.lean ====
/-
  What the launch deals: every device's 66 cells' states and positions, the tokens of the duties each device pays, and the
  credit each device waits by.
-/
module

public import proofs.«01_k».proof.Proof.Turns

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A device's cells by kind -/

/-- The barrier, a send cell per device, a receive cell per device, the copy's. -/
abbrev Kind : Type := Unit ⊕ (Dev nD ⊕ (Dev nD ⊕ Unit))

/-- Where a kind of cell stands among the 66 of a device; -/
def place : Kind → Fin 66
  | .inl _ => iBar
  | .inr (.inl j) => iSend j
  | .inr (.inr (.inl s)) => iRecv s
  | .inr (.inr (.inr _)) => iW

/-- no two kinds stand in the same place, -/
theorem place_inj : Function.Injective place := by
  intro a b h
  have hv := congrArg Fin.val h
  rcases a with u | j | s | u <;> rcases b with u' | j' | s' | u' <;> simp only [place, iBar, iSend, iRecv, iW, Fin.val_zero, show ((65 : Fin 66).val = 65) from rfl] at hv
  · rfl
  · omega
  · omega
  · omega
  · omega
  · exact congrArg _ (congrArg _ (Fin.ext (by omega)))
  · have : j.val < 32 := j.isLt; omega
  · have : j.val < 32 := j.isLt; omega
  · omega
  · have : j'.val < 32 := j'.isLt; omega
  · exact congrArg _ (congrArg _ (congrArg _ (Fin.ext (by omega))))
  · have : s.val < 32 := s.isLt; omega
  · omega
  · have : j'.val < 32 := j'.isLt; omega
  · have : s'.val < 32 := s'.isLt; omega
  · rfl

/-- and every place is taken. -/
def placeEquiv : Kind ≃ Fin 66 := Equiv.ofBijective place ((Fintype.bijective_iff_injective_and_card place).mpr ⟨place_inj, by decide⟩)

omit [FloatOps F] in
/-- A family over a device's 66 cells, kind by kind. -/
theorem by_kind (Φ : Kind → sProp 𝕄) :
    bigSep Finset.univ Φ = iprop(Φ (.inl ()) ∗ (bigSep Finset.univ fun j => Φ (.inr (.inl j))) ∗ (bigSep Finset.univ fun s => Φ (.inr (.inr (.inl s)))) ∗ Φ (.inr (.inr (.inr ())))) := by
  rw [bigSep_univ_sum, bigSep_univ_sum, bigSep_univ_sum, bigSep_univ_of_subsingleton (), bigSep_univ_of_subsingleton ()]
  rfl

omit [FloatOps F] in
/-- A family over a device's cells, by kind. -/
theorem cells_by_kind (c : Dev nD) (Φ : GSem nD τ sig → sProp 𝕄) :
    (bigSep Finset.univ fun k : Fin 66 => Φ (kcell (c, k)))
      = iprop(Φ (barCell c) ∗ (bigSep Finset.univ fun j => Φ (sendCell c j)) ∗ (bigSep Finset.univ fun s => Φ (recvCell c s)) ∗ Φ (wCell c)) := by
  rw [bigSep_univ_equiv placeEquiv, by_kind]
  show iprop(Φ (kcell (c, iBar)) ∗ (bigSep Finset.univ fun j => Φ (kcell (c, iSend j))) ∗ (bigSep Finset.univ fun s => Φ (kcell (c, iRecv s))) ∗ Φ (kcell (c, iW))) = _
  rw [kcell_bar, kcell_w]
  simp only [kcell_send, kcell_recv]

/-- The 66 cells of a device are 66 semaphores. -/
theorem csem_inj : Function.Injective csem := by
  intro k k' h
  refine Fin.ext ?_
  unfold csem at h
  split_ifs at h with h1 h2
  · omega
  · injection h with h; have := congrArg Fin.val h; simp only at this; omega

/-- The cells of all devices are distinct. -/
theorem kcell_inj : Function.Injective (kcell : Dev nD × Fin 66 → GSem nD τ sig) := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-- All the cells the devices talk over. -/
def meshCells : Finset (GSem nD τ sig) := Finset.univ.map ⟨kcell, kcell_inj⟩

/-! ## Tokens -/

/-- The duties minted: a barrier's duty per device, one of each transfer's cell. -/
abbrev TKind : Type := Dev nD ⊕ (Dev nD ⊕ (Dev nD ⊕ Unit))

/-- The token of a duty: its cell, its round, who pays it. -/
def tokOf (ck : Dev nD × TKind) : GSem nD τ sig × ℕ × Dev nD := match ck.2 with
  | .inl d => (barCell ck.1, 0, d)
  | .inr (.inl j) => (sendCell ck.1 j, 0, 0)
  | .inr (.inr (.inl s)) => (recvCell ck.1 s, 0, 0)
  | .inr (.inr (.inr _)) => (wCell ck.1, 0, 0)

/-- The place of the token's cell among its device's. -/
def tplace : TKind → Kind
  | .inl _ => .inl ()
  | .inr x => .inr x

/-- A duty's token belongs to the cell of its kind. -/
theorem tokOf_cell (c : Dev nD) (x : TKind) : (tokOf (c, x)).1 = kcell (c, place (tplace x)) := by
  rcases x with d | j | s | u
  · exact (kcell_bar c).symm
  · exact (kcell_send c j).symm
  · exact (kcell_recv c s).symm
  · exact (kcell_w c).symm

/-- No two duties have the same token. -/
theorem tokOf_inj : Function.Injective (tokOf : Dev nD × TKind → GSem nD τ sig × ℕ × Dev nD) := by
  rintro ⟨c, x⟩ ⟨c', x'⟩ h
  have hk := kcell_inj (((tokOf_cell c x).symm.trans (congrArg Prod.fst h)).trans (tokOf_cell c' x'))
  have h1 : c = c' := congrArg Prod.fst hk
  have h2 : tplace x = tplace x' := place_inj (congrArg Prod.snd hk)
  subst h1
  refine congrArg (Prod.mk c) ?_
  rcases x with d | y <;> rcases x' with d' | y'
  · exact congrArg Sum.inl (congrArg (fun t : GSem nD τ sig × ℕ × Dev nD => t.2.2) h)
  · exact absurd h2 (by rintro ⟨⟩)
  · exact absurd h2 (by rintro ⟨⟩)
  · exact congrArg Sum.inr (Sum.inr.inj h2)

/-- The tokens of all duties. -/
def meshToks : Finset (GSem nD τ sig × ℕ × Dev nD) := Finset.univ.map ⟨tokOf, tokOf_inj⟩

/-- The tokens of `c`'s own cells, as minted; -/
def ownToks (c : Dev nD) : sProp 𝕄 :=
  iprop((bigSep Finset.univ fun d : Dev nD => dutyTok ER (barCell c) 0 d) ∗ (bigSep Finset.univ fun j : Dev nD => dutyTok ER (sendCell c j) 0 0)
    ∗ (bigSep Finset.univ fun s : Dev nD => dutyTok ER (recvCell c s) 0 0) ∗ dutyTok ER (wCell c) 0 0)

/-- the tokens of the duties `c` pays. -/
def payToks (c : Dev nD) : sProp 𝕄 :=
  iprop((bigSep Finset.univ fun j : Dev nD => dutyTok ER (barCell j) 0 c)
    ∗ (bigSep Finset.univ fun j : Dev nD => iprop(dutyTok ER (sendCell c j) 0 0 ∗ dutyTok ER (recvCell j c) 0 0)) ∗ dutyTok ER (wCell c) 0 0)

omit [FloatOps F] in
/-- A family over pairs of devices, either one first. -/
theorem swap (Φ : Dev nD → Dev nD → sProp 𝕄) :
    (bigSep Finset.univ fun c => bigSep Finset.univ fun d => Φ c d) = bigSep Finset.univ fun d => bigSep Finset.univ fun c => Φ c d := by
  rw [← bigSep_univ_prod (fun p : Dev nD × Dev nD => Φ p.1 p.2), ← bigSep_univ_prod (fun p : Dev nD × Dev nD => Φ p.2 p.1)]
  exact bigSep_univ_equiv (Equiv.prodComm (Dev nD) (Dev nD)) _

omit [FloatOps F] in
/-- The tokens dealt: the barrier's and the receive cells' go to the devices that pay them. -/
theorem toks_dealt : (bigSep Finset.univ fun c : Dev nD => (ownToks c : sProp 𝕄)) ⊢ bigSep Finset.univ fun c : Dev nD => payToks c := by
  unfold ownToks payToks
  simp only [bigSep_sep']
  rw [swap (fun c d : Dev nD => (dutyTok ER (barCell c) 0 d : sProp 𝕄)),
    swap (fun c s : Dev nD => (dutyTok ER (recvCell c s) 0 0 : sProp 𝕄))]
  iintro ⟨H1, H2, H3, H4⟩
  isplitl [H1]; · iexact H1
  isplitl [H2 H3]
  · isplitl [H2] <;> iassumption
  iexact H4

/-! ## The launch element, and what it deals each device -/

/-- The launch's ghost state: the pipeline's cells and the mesh's. -/
def u₀ : UU := (initOf (Pipeline.cells cfgs cellOf_inj) (Pipeline.launchToks cfgs cellOf_inj), initOf meshCells meshToks)

/-- Device `c`'s part of the mesh's ghost state: its cells at round zero, the tokens it pays with. -/
def G (c : Dev nD) : sProp 𝕄 :=
  iprop((bigSep Finset.univ fun k : Fin 66 => roundState ER (meshRd m ρ) (kcell (c, k)) 0)
    ∗ (bigSep Finset.univ fun k : Fin 66 => iprop(atPos ER (kcell (c, k)) 0 ∅ 0 ∗ reached ER (kcell (c, k)) 0)) ∗ ownToks c)

/-- The mesh's ghost state splits into every device's part. -/
theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Fin 66 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => ownToks c := by
    unfold meshToks; rw [bigSep_map, bigSep_univ_prod]
    refine bigSep_congr fun c _ => ?_
    unfold ownToks
    rw [bigSep_univ_sum, bigSep_univ_sum, bigSep_univ_sum, bigSep_univ_of_subsingleton ()]
    rfl
  iintro HX
  imod (Rounds.fund ER (meshRd m ρ) meshCells meshToks) $$ HX with ⟨Hst, Hr, Hat, Htok⟩
  imodintro
  ihave Hst' := (Entails.of_eq (hX fun g => roundState ER (meshRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: all cells but the barrier's. -/
def osem (k : Fin 65) : SemLoc sig := csem k.succ

/-- The launch's own semaphores are scoped, distinct, and none of the pipeline's. -/
theorem ownSemFacts : Pipeline.OwnSemFacts cfg0.spec osem := by decide

omit [FloatOps F] in
/-- The one semaphore outside the launch is the barrier. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The barrier and the launch's own semaphores are the 66 cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 66 => semVal (kcell (c, k)) 0 : sProp 𝕄) := by
  rw [unscoped_eq, bigSep_univ_at _ (0 : Fin 66)]
  refine congrArg (fun X : sProp 𝕄 => iprop(semVal (barCell c) 0 ∗ X)) ?_
  unfold Pipeline.ownSems0
  rw [show (Finset.univ.erase (0 : Fin 66)) = Finset.univ.map (Fin.succEmb 65) from by decide, bigSep_map]
  rfl

/-! ## The invariants -/

/-- A device's cells, at zero, become its invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Fin 66 => semVal (kcell (c, k)) 0) ∗ bigSep Finset.univ fun k : Fin 66 => roundState ER (meshRd m ρ) (kcell (c, k)) 0)
      ⊢ (|={Set.univ}=> bigSep Finset.univ fun k => iprop(∃ κ : ℕ, cellInv ER (meshRd m ρ) κ (kcell (c, k))) : sProp 𝕄) from by
        rw [← bigSep_sep']
        exact (bigSep_mono fun k _ => (Rounds.body_intro ER (meshRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and that it has reached its round. -/
def opened (K : Dev nD × Fin 66 → ℕ) : sProp 𝕄 :=
  bigSep Finset.univ fun ck : Dev nD × Fin 66 => iprop(cellInv ER (meshRd m ρ) (K ck) (kcell ck) ∗ reached ER (kcell ck) 0)

instance opened_persistent (K : Dev nD × Fin 66 → ℕ) : BI.Persistent (opened m ρ K) := by unfold opened; infer_instance

/-- What stays with device `c`: its positions, and the tokens of the duties it pays. -/
def held (c : Dev nD) : sProp 𝕄 := iprop((bigSep Finset.univ fun k : Fin 66 => atPos ER (kcell (c, k)) 0 ∅ 0) ∗ payToks c)

/-- What device `c` has after the invariants are made: all of their names, and what it holds itself. -/
def G' (c : Dev nD) : sProp 𝕄 := iprop(∃ K, opened m ρ K ∗ held c)

omit [FloatOps F] in
/-- A fact that holds for good, given to each. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- The names that the devices chose, made known to all of them. -/
theorem regroup :
    (bigSep Finset.univ fun c : Dev nD => iprop((bigSep Finset.univ fun k => iprop(∃ κ : ℕ, cellInv ER (meshRd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 66 => iprop(∃ κ : ℕ, cellInv ER (meshRd m ρ) κ (kcell ck))),
    bigSep_congr (s := Finset.univ) (fun (c : Dev nD) _ => bigSep_sep' Finset.univ (fun k : Fin 66 => (atPos ER (kcell (c, k)) 0 ∅ 0 : sProp 𝕄)) (fun k => reached ER (kcell (c, k)) 0)),
    bigSep_sep', ← bigSep_univ_prod (fun ck : Dev nD × Fin 66 => (reached ER (kcell ck) 0 : sProp 𝕄))]
  iintro ⟨HI, ⟨Hat, #HR⟩, Htok⟩
  ihave HK := (BI.bigSep_exists_pi Finset.univ (fun (ck : Dev nD × Fin 66) (κ : ℕ) => (cellInv ER (meshRd m ρ) κ (kcell ck) : sProp 𝕄))) $$ HI
  icases HK with ⟨%K, #HI⟩
  ihave Htk := (toks_dealt (F := F)) $$ Htok
  iapply (to_each (R := opened m ρ K) (Φ := held) (Ψ := G' m ρ) fun c _ => show iprop(opened m ρ K ∗ held c) ⊢ G' m ρ c from by
    unfold G'; iintro H; iexists K; iexact H)
  isplitr
  · unfold opened; rw [bigSep_sep']
    isplitl; · iexact HI
    iexact HR
  · unfold held
    rw [bigSep_sep']
    isplitl [Hat] <;> iassumption

/-- All invariants made, for all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- Barrier cells are equal for equal devices; -/
theorem bar_iff {a b : Dev nD} : Iff (barCell a = barCell b) (a = b) :=
  ⟨fun h => congrArg (fun g : GSem nD τ sig => g.1.1) h, fun h => h ▸ rfl⟩

/-- receive cells for equal devices and equal senders; -/
theorem recv_iff {a b s t : Dev nD} : Iff (recvCell a s = recvCell b t) (a = b ∧ s = t) := by
  refine ⟨fun h => ?_, fun h => by rw [h.1, h.2]⟩
  have hk := kcell_inj (((kcell_recv a s).trans h).trans (kcell_recv b t).symm)
  have h2 := congrArg (fun x : Dev nD × Fin 66 => x.2.val) hk
  exact ⟨congrArg Prod.fst hk, Fin.ext (by simp only [iRecv] at h2; omega)⟩

/-- and no receive cell is a barrier cell. -/
theorem recv_ne_bar (a b s : Dev nD) : recvCell a s ≠ barCell b := fun h => by
  have := congrArg (fun g : GSem nD τ sig => g.2) h
  cases this

/-- A sum of tallies at a cell. -/
theorem sum_tally_apply (S : Finset ℕ) (f : ℕ → GSem nD τ sig) (n : ℕ) (g : GSem nD τ sig) :
    (∑ k ∈ S, tallyAt (f k) () n : CellTallies nD τ sig Unit) g () = ∑ k ∈ S, if f k = g then n else 0 := by
  rw [Finset.sum_apply, Finsupp.finset_sum_apply]
  refine Finset.sum_congr rfl fun k _ => ?_
  rw [tallyAt_apply]
  by_cases h : f k = g
  · rw [if_pos h, if_pos ⟨h.symm, rfl⟩]
  · rw [if_neg h, if_neg fun h' => h h'.1.symm]

/-- The one device `k` places before `c`. -/
theorem sh_eq_iff {d c : Dev nD} {k : ℕ} (hk : k < 32) : Iff (sh d k = c) (d = sh c (32 - k)) := by
  have hd : d.val < 32 := d.isLt
  have hc : c.val < 32 := c.isLt
  constructor
  · rintro rfl; refine Fin.ext ?_; simp only [sh_val]; omega
  · rintro rfl; refine Fin.ext ?_; simp only [sh_val]; omega

/-- All devices together owe a barrier 31 units; -/
theorem owed_bar (c : Dev nD) : ∑ d : Dev nD, O₀ d (barCell c) () = 31 := by
  have h1 (d : Dev nD) : O₀ d (barCell c) () = ∑ k ∈ Finset.Ico 1 32, if sh d k = c then 1 else 0 := by
    unfold O₀ OB OR
    rw [Pi.add_apply, Finsupp.add_apply, sum_tally_apply, sum_tally_apply,
      Finset.sum_eq_zero (s := Finset.Ico 0 32) (fun k _ => if_neg (recv_ne_bar _ _ _)), add_zero]
    exact Finset.sum_congr rfl fun k _ => if_congr bar_iff rfl rfl
  rw [Finset.sum_congr rfl fun d _ => h1 d, Finset.sum_comm]
  have h2 : ∀ k ∈ Finset.Ico 1 32, (∑ d : Dev nD, if sh d k = c then 1 else 0) = 1 := fun k hk => by
    rw [Finset.sum_congr rfl fun d _ => if_congr (sh_eq_iff (c := c) (Finset.mem_Ico.mp hk).2) rfl rfl, Finset.sum_ite_eq', if_pos (Finset.mem_univ _)]
  rw [Finset.sum_congr rfl h2]; rfl

/-- and a receive cell one block. -/
theorem owed_recv (c s : Dev nD) : ∑ d : Dev nD, O₀ d (recvCell c s) () = N := by
  have h1 (d : Dev nD) : O₀ d (recvCell c s) () = if d = s then N else 0 := by
    unfold O₀ OB OR
    rw [Pi.add_apply, Finsupp.add_apply, sum_tally_apply, sum_tally_apply,
      Finset.sum_eq_zero (s := Finset.Ico 1 32) (fun k _ => if_neg (recv_ne_bar _ _ _).symm), zero_add]
    by_cases h : d = s
    · subst h
      rw [if_pos rfl, Finset.sum_eq_single (gap d c) (fun k hk hne => if_neg fun h' => hne ?_) (fun h' => absurd (Finset.mem_Ico.mpr ⟨Nat.zero_le _, gap_lt d c⟩) h'), sh_gap, if_pos rfl]
      rw [← (recv_iff.mp h').1, gap_sh d (Finset.mem_Ico.mp hk).2]
    · rw [if_neg h]
      exact Finset.sum_eq_zero fun k _ => if_neg fun h' => h (recv_iff.mp h').2
  rw [Finset.sum_congr rfl fun d _ => h1 d, Finset.sum_ite_eq', if_pos (Finset.mem_univ _)]

/-- What the launch promises a cell is the sum of what the devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credit a device waits by: for its barrier's units, for the blocks sent to it. -/
def creds (c : Dev nD) : sProp 𝕄 := iprop(cred (tallyAt (barCell c) () 31) ∗ bigSep Finset.univ fun s : Dev nD => cred (tallyAt (recvCell c s) () N))

omit [FloatOps F] in
/-- The launch's credit at device `c`: 31 units on its barrier, one block on each receive cell. -/
theorem creds_intro (c : Dev nD) : (Pipeline.launchCred O₀ c : sProp 𝕄) ⊢ creds c := by
  unfold Pipeline.launchCred creds
  rw [bigSep_univ_at _ (SemLoc.reg barS), launch_at (barCell c) 31 (owed_bar c)]
  refine sep_mono_right ?_
  have hinj : Set.InjOn (fun s : Dev nD => SemLoc.dma (recvS s)) (Finset.univ : Finset (Dev nD)) := fun s _ t _ h => by
    have := (recv_iff (a := c) (b := c)).mp (congrArg (fun x => (((c : Thread nD τ), x) : GSem nD τ sig)) h)
    exact this.2
  refine (bigSep_subset (t := Finset.univ.image fun s : Dev nD => SemLoc.dma (recvS s)) fun x hx => ?_).trans ?_
  · obtain ⟨s, -, rfl⟩ := Finset.mem_image.mp hx
    exact Finset.mem_erase.mpr ⟨(by rintro ⟨⟩), Finset.mem_univ _⟩
  · rw [bigSep_image_of_injOn hinj]
    exact bigSep_mono fun s _ => Entails.of_eq (congrArg cred (launch_at (recvCell c s) N (owed_recv c s)))

end Cert.AllToAll
-- ==== Proof.Run.lean ====
/-
  The run of the whole program: at any float values, from any memory with zero counters, every weakly fair execution of
  the 32 devices ends; it ends with each device's result array at `outAt`, its arguments as they were, every semaphore
  counter at zero.
-/
module

public import proofs.«01_k».proof.Proof.Parts
public import proofs.«01_k».proof.Proof.Deal
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c` has before the launch's one point, its scratch buffers apart; -/
def begun (c : Dev nD) : sProp 𝕄 :=
  iprop((∃ K, records m ρ K ∗ held c) ∗ creds c ∗ (((c : Thread nD τ).loc main_arg1) ↦{fullShare} wOf m ρ c))

/-- What the body starts from, with the scratch buffers; -/
def Φ₀ (c : Dev nD) : sProp 𝕄 := iprop(begun m ρ c ∗ Pipeline.scopedRest cfg0.spec c)

/-- and after it: its semaphores at zero, the scratch buffers, `w` as it was. -/
def Φ₁ (c : Dev nD) : sProp 𝕄 :=
  iprop(((bigSep Finset.univ fun k : Fin 66 => semVal (kcell (c, k)) 0) ∗ (((c : Thread nD τ).loc main_arg1) ↦{fullShare} wOf m ρ c))
    ∗ Pipeline.scopedRest cfg0.spec c)

/-- The pipeline's data of device `c`: `x` staged and kept, the result stored. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- `x` is fetched at the one point. -/
theorem fetched (t : Fin cfg0.N) : (cfg0.win (0 : Fin 2)).fetch t = true := by rw [show t = t0_0 from fin_N0 t]; rfl

omit [FloatOps F] in
/-- Owning a whole buffer is its points-to. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 2) t0_0 d)) ∗ ∃ d, stg c cc0_stg1_0 ((dats m ρ 0 c).before (1 : Fin 2) t0_0 d))

/-- and what it takes back. -/
def bodyPost (c : Dev nD) : sProp 𝕄 :=
  iprop(Φ₁ m ρ c ∗ (dats m ρ 0 c).owesAt () (t0_0 : Fin cfg0.N).succ ∗ stg c cc0_stg0_0 (xstg m ρ c) ∗ stg c cc0_stg1_0 (outAt m ρ c))

/-- What the pipeline hands the body is what the body starts from, at some names of the invariants; -/
theorem pre_start (c : Dev nD) : bodyPre m ρ c ⊢ iprop(∃ K, Start m ρ K c) := by
  unfold bodyPre Φ₀ begun held payToks creds stg
  rw [scopedRest0_eq]
  iintro ⟨⟨⟨⟨%K, #Hrec, Hat, HtB, Htok, HtW⟩, ⟨HcB, HcR⟩, Ha⟩, Hb, Hg, Hw⟩, Ho, ⟨%d0, %g0, %hg0, Hx⟩, ⟨%d1, %g1, -, Hout⟩⟩
  have hx : g0 = xstg m ρ c := by rw [hg0]; unfold Dat.before; rw [if_pos (fetched t0_0)]; rfl
  subst hx
  unfold Dat.owesAt Pipeline.owesWithin
  icases Ho with ⟨%W, -, HO⟩
  ihave Hat' := (Entails.of_eq (cells_by_kind (F := F) c fun g => atPos ER g 0 ∅ 0)) $$ Hat
  icases Hat' with ⟨HaB, HaS, HaR, HaW⟩
  iexists K
  unfold Start io
  isplitr; · iexact Hrec
  isplitl [HO]; · iexists W; iexact HO
  isplitl [Hg]; · iexact Hg
  isplitl [HtB]; · iexact HtB
  isplitl [Hb]; · iexact Hb
  isplitl [Hw]; · iexact Hw
  isplitl [Ha]; · iexact Ha
  isplitl [Htok]; · iexact Htok
  isplitl [HtW]; · iexact HtW
  isplitl [HcB HaB]
  · isplitl [HcB] <;> iassumption
  isplitl [HcR HaR]
  · rw [bigSep_sep']
    isplitl [HcR] <;> iassumption
  isplitl [HaS]; · iexact HaS
  isplitl [HaW]; · iexact HaW
  isplitl [Hx]; · iexact Hx
  iexists g1; iexact Hout

/-- what the body ends with is what the pipeline takes back. -/
theorem finish_post (c : Dev nD) : Finish m ρ c ⊢ bodyPost m ρ c := by
  unfold Finish bodyPost Φ₁ wPay stg
  rw [scopedRest0_eq, cells_by_kind (F := F) c fun g => semVal g 0]
  iintro ⟨⟨%W, HO⟩, HzB, HzR, HzS, HzW, Hb, Hg, ⟨Hw, Ha⟩, Hx, Hout⟩
  isplitl [HzB HzR HzS HzW Hb Hg Hw Ha]
  · isplitl [HzB HzR HzS HzW Ha]
    · isplitl [HzB HzR HzS HzW]
      · isplitl [HzB]; · iexact HzB
        isplitl [HzS]; · iexact HzS
        isplitl [HzR]; · iexact HzR
        iexact HzW
      iexact Ha
    isplitl [Hb]; · iexists _; iexact Hb
    isplitl [Hg]; · iexists _; iexact Hg
    iexists _; iexact Hw
  isplitl [HO]
  · unfold Dat.owesAt Pipeline.owesWithin
    iexists W
    isplitr; · (ipureintro; exact fun _ _ => Or.inl trivial)
    iexact HO
  isplitl [Hx]
  · iexists _; isplitr; · (ipureintro; rfl)
    iexact Hx
  iexists _; isplitr; · (ipureintro; rfl)
  iexact Hout

set_option maxRecDepth 65536 in
/-- The pipeline's obligation on the body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_eq]
  show bodyPre m ρ c ⊢ wpc c (cc0_body xM (Memref.isWhole_whole _) hM (Memref.isWhole_whole _) oM (Memref.isWhole_whole _) bM (Memref.isWhole_whole _)
    gM (Memref.isWhole_whole _) wM (Memref.isWhole_whole _) cc0_scratch3 cc0_scratch4 cc0_scratch5) (fun _ => bodyPost m ρ c)
  refine (pre_start m ρ c).trans ?_
  iintro ⟨%K, H⟩
  iapply (body_run m ρ K (finish_post m ρ c))
  iexact H

/-! ## The side conditions of the launch -/

/-- Every array is held whole. -/
theorem share_eq (c : Dev nD) (w : Fin cfg0.W) : (dats m ρ 0 c).share w = fullShare := by unfold Dat.share; split <;> rfl

/-- What the launch gives a device is what the region starts with; -/
theorem begun_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begun m ρ c ∗ emp) := by
  rw [Pipeline.unscopedRestP_none, unscopedRest0_eq]
  unfold G' begun
  iintro ⟨Ha, Hlev, Hcr, -, ⟨%K, HK, Hh⟩⟩
  ihave Hc := (creds_intro (F := F) c) $$ Hcr
  imodintro
  isplitl
  · isplitl [Hlev HK Hh]
    · iexists K
      isplitl [Hlev HK]
      · unfold records opened
        isplitl [HK] <;> iassumption
      iexact Hh
    isplitl [Hc]; · iexact Hc
    iexact Ha
  · iempintro

/-- with the scratch buffers, what the body starts from. -/
theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

/-- What is left for the end: the barrier semaphore at zero, `w` as it was. -/
def left (c : Dev nD) : sProp 𝕄 := iprop(unscopedSems0 c ∗ (((c : Thread nD τ).loc main_arg1) ↦{fullShare} wOf m ρ c))

/-- What the body ends with: the semaphores at zero, the scratch buffers, and what is left. -/
theorem phi1_exit (c : Dev nD) :
    (dats m ρ 0 c).Φ (Fin.last cfg0.N) ⊢ iprop(left m ρ c ∗ Pipeline.ownSems0 osem c ∗ Pipeline.scopedRest cfg0.spec c) := by
  rw [show (dats m ρ 0 c).Φ (Fin.last cfg0.N) = Φ₁ m ρ c from rfl]
  unfold Φ₁ left
  rw [← sems_eq]
  iintro ⟨⟨⟨Hu, Ho⟩, Ha⟩, Hr⟩
  isplitl [Hu Ha]
  · isplitl [Hu] <;> iassumption
  isplitl [Ho] <;> iassumption

/-- The pipeline's waits lie below all that the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is left, read off the final state. -/
theorem left_read (c : Dev nD) (s' : Phys nD τ sig (Elt F)) :
    iprop(left m ρ c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg1) = wOf m ρ c⌝ ∗ (SI s' : sProp 𝕄)) := by
  unfold left
  iintro ⟨⟨Hu, Ha⟩, -, HSI⟩
  ihave Hp := (pointsTo_read_all (Finset.univ : Finset Unit) (fun _ => (c : Thread nD τ).loc main_arg1) (fun _ => wOf m ρ c) s') $$ [Ha HSI]
  · rw [bigSep_univ_of_subsingleton ()]
    isplitl [Ha] <;> iassumption
  icases Hp with ⟨%ha, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, ha () (Finset.mem_univ _)⟩
  iexact HSI

/-! ## The run -/

/-- What the final state is, on every device: the result; the arguments as they were; and every semaphore counter zero. -/
def Ends (r : PUnit × MemSt nD τ sig (Elt F)) : Prop :=
  (∀ c : Dev nD, r.2.mem ((c : Thread nD τ).loc main_v1) = outAt m ρ c ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The result array after the one point: what the body left in its staging buffer. -/
theorem out_array (c : Dev nD) : (dats (F := F) m ρ 0 c).arrAt (1 : Fin 2) cfg0.N = outAt m ρ c := by
  have hblk : ∀ f : (main_v1 : Ref sig .tc).ty.Contents (Elt F), ((cfg0.win 1).blk t0_0).view.read (Elt F) f = f := fun f =>
    Memref.read_access_unit_zero (Elt F) main_v1
      (show (fun a => (win0_1.index t0_0) a * main_v1.ty.shape.size a) = fun _ => 0 from funext fun a => by fin_cases a <;> rfl)
      (fun a => by fin_cases a <;> decide) f
  refine (hblk _).symm.trans ?_
  rw [show cfg0.N = t0_0.val + 1 from rfl, (dats m ρ 0 c).arrAt_succ (1 : Fin 2) t0_0, flush0_1, if_pos rfl]
  exact View.read_write_univ _ _

set_option maxRecDepth 65536 in
/-- The run: every fair execution of the 32 devices ends so. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := begun m ρ) (Y := left m ρ) (Z := fun _ => iprop(emp))
    (hX := begun_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = wOf m ρ c)
    (hY := left_read m ρ)
    (hQ := fun _ h hs => ⟨fun c => ⟨((h c).1 (1 : Fin 2)).trans (out_array m ρ c), ((h c).1 (0 : Fin 2)).trans ((dats (F := F) m ρ 0 c).arrAt_in (0 : Fin 2) rfl _), (h c).2.2.2⟩,
      sem_eq_zero hs fun c => (h c).2.2.1⟩)

end Cert.AllToAll
-- ==== Proof.Value.lean ====
/-
  The value of the result at the ideal values. Where device `c` holds columns `128·c …` of `X` and all of `W`, its gather
  buffer ends holding rows `128·c …` of `X`, so its result is rows `128·c …` of `max (X · W, 0)`.
-/
module

public import proofs.«01_k».proof.Proof.Run
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.IdealHost
public import Idealize.ShloMosaic.Lib.ValueIdx

@[expose] public section

noncomputable section

namespace Cert.AllToAll

open Cert.KernelIdeal Cert.KernelIdeal.Gen

open Idealize.ShloMosaic
open Idealize.ShloMosaic.TcCoe
open Idealize.ShloMosaic.ValueIdx
open Idealize.SL.Sem

variable {F : FTy → Type} [FloatOps F]

/-- The staging buffer of device `c` holds the whole of its argument: the window's one block is the array. -/
theorem xstg_eq (m : (ℓ : Loc nD τ sig) → Buf (Elt F) ℓ) (ρ : Dev nD → PrngReg) (c : Dev nD) :
    xstg m ρ c = m ((c : Thread nD τ).loc main_arg0) :=
  Memref.read_access_unit_zero (Elt F) main_arg0
    (show (fun a => (win0_0.index t0_0) a * main_arg0.ty.shape.size a) = fun _ => 0 from funext fun a => by fin_cases a <;> rfl)
    (fun a => by fin_cases a <;> decide) _

variable (m : (ℓ : Loc nD τ sig) → Buf (Elt Ideal) ℓ) (ρ : Dev nD → PrngReg)

/-- The cast keeps the ideal values. -/
theorem castOf_apply (c : Dev nD) (i : S4096x128.Idx) : castOf m ρ c i = m ((c : Thread nD τ).loc main_arg0) i := by
  unfold castOf
  rw [xstg_eq]
  show shapeCast S4096x128 (truncf .bf16 (shapeCast S4096x128 _ _) _) _ i = _
  rw [shapeCast_self, truncf_apply, shapeCast_self]

/-- The whole result, of the whole arrays. -/
def product (X : FVec Ideal ⟨2, ![4096, 4096]⟩ .f32) (W : FVec Ideal ⟨2, ![4096, 2048]⟩ .f32) : FVec Ideal ⟨2, ![4096, 2048]⟩ .f32 :=
  fun i => max (∑ k : Fin 4096, X (ix2 (i 0) k) * W (ix2 k (i 1))) 0

variable (X : FVec Ideal ⟨2, ![4096, 4096]⟩ .f32) (W : FVec Ideal ⟨2, ![4096, 2048]⟩ .f32)

/-- Row `i` of device `c`'s gather buffer is row `128·c + i` of `X`. -/
theorem gathered_apply (hX : ∀ c : Dev nD, m ((c : Thread nD τ).loc main_arg0) = Layout.block ⟨2, ![4096, 128]⟩ ⟨2, ![4096, 4096]⟩ 1 32 c X)
    (c : Dev nD) (i : Fin 128) (l : Fin 4096) (r : Fin 4096) (hr : r.val = 128 * c.val + i.val) :
    gathered m ρ c (ix2 i l) = X (ix2 r l) := by
  show castOf m ρ (srcDev l) (srcIdx c i l) = _
  rw [castOf_apply, hX, Layout.block_apply]
  refine congrArg X (funext fun a => Fin.ext ?_)
  match a with
  | ⟨0, _⟩ => exact hr.symm
  | ⟨1, _⟩ => exact Nat.div_add_mod' l.val 128

/-- Device `c`'s result is block `c` of the whole result's rows. -/
theorem outAt_block (hX : ∀ c : Dev nD, m ((c : Thread nD τ).loc main_arg0) = Layout.block ⟨2, ![4096, 128]⟩ ⟨2, ![4096, 4096]⟩ 1 32 c X)
    (hW : ∀ c : Dev nD, m ((c : Thread nD τ).loc main_arg1) = W) (c : Dev nD) :
    outAt m ρ c = Layout.block ⟨2, ![128, 2048]⟩ ⟨2, ![4096, 2048]⟩ 0 32 c (product X W) := by
  refine funext fun (x : S128x2048.Idx) => ?_
  obtain ⟨i, j, rfl⟩ : ∃ (i : Fin 128) (j : Fin 2048), x = ix2 i j := ⟨x 0, x 1, eq_ix2 x⟩
  have hw : wOf m ρ c = W := hW c
  rw [Layout.block_apply]
  show max (FloatOps.matmul (DotDims.plain 128 4096 2048) none (extf .f32 (gathered m ρ c) bitsLt_bf16_f32 : FVec Ideal ⟨2, ![128, 4096]⟩ .f32)
    (wOf m ρ c) (constant S128x2048 .f32 0x00000000#32) (ix2 i j)) (Ideal.ofBits .f32 0x00000000#32) = product X W _
  rw [Ideal.matmul_plain_apply, constant_apply, Ideal.ofBits_zero_f32, zero_add, hw]
  unfold product
  refine congrArg (max · 0) (Finset.sum_congr rfl fun k _ => ?_)
  rw [extf_apply, gathered_apply m ρ X hX c i k ⟨c.val * 128 + i.val, by have : c.val < 32 := c.isLt; omega⟩ (congrArg (· + i.val) (Nat.mul_comm c.val 128))]
  rfl

/-- The reference's result, of the whole arrays, is that. -/
theorem reference_value :
    maximumf (Host.dotGeneral Cert.ReferenceIdeal.dot_S4096x4096_S4096x2048_S4096x2048_1_0_0_1_n_n none X W)
      (broadcastInDim Cert.ReferenceIdeal.S4096x2048 ![] Cert.ReferenceIdeal.Facts₀.bcast_S_S4096x2048 (constant Cert.ReferenceIdeal.S_ .f32 0x00000000#32))
      = product X W := by
  refine funext fun x => ?_
  obtain ⟨i, j, rfl⟩ : ∃ (i : Fin 4096) (j : Fin 2048), x = ix2 i j := ⟨x 0, x 1, eq_ix2 x⟩
  rw [maximumf_apply]
  show max (Host.dotGeneral (DotDims.plain 4096 4096 2048) none X W (ix2 i j)) (Ideal.ofBits .f32 0x00000000#32) = _
  rw [StackMember.dotGeneral_plain_apply, Ideal.ofBits_zero_f32]
  rfl

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

section Tables

variable {F : FTy → Type} [FloatOps F]

/-- The two programs have the same text: their body tables agree, -/
theorem bodies_eq : Cert.Kernel.defs₀ (F := F) = Cert.KernelIdeal.defs₀ (F := F) :=
  congrArg Defs.onTc (funext fun (l : Fin 1) => funext fun _ => by
    match l with
    | ⟨0, _⟩ => rfl)

/-- and so do the tables with the pipelines. -/
theorem tables_eq : Cert.Kernel.defs (F := F) = Cert.KernelIdeal.defs (F := F) :=
  congrArg (Pipeline.defs Cert.KernelIdeal.pcfgs) bodies_eq

end Tables

/-- The kernel's run on words: the one run over any float values, its values dropped. -/
theorem frame_kernel : Cert.quiescent_Kernel := fun m ρ _ => by
  rw [tables_eq]
  exact (θ_run Cert.KernelIdeal.defs (onTc Cert.KernelIdeal.main) (Cert.AllToAll.s₀ m ρ)).mono (fun _ h => ⟨fun c => (h.1 c).2, h.2⟩)
    (Cert.AllToAll.run_main (F := Bits) m ρ)

/-- The ideal program's run likewise. -/
theorem frame_kernelIdeal : Cert.quiescent_KernelIdeal := fun m ρ _ =>
  (θ_run Cert.KernelIdeal.defs _ _).mono (fun _ h => ⟨fun c => (h.1 c).2, h.2⟩) (Cert.AllToAll.run_main (F := Ideal) m ρ)

/-- The reference is host operations alone: it ends, keeps its arguments, and touches no semaphore. -/
theorem frame_referenceIdeal : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

/-- Device `c`'s result is rows `128·c` to `128·c + 127` of `max (X · W, 0)`, which is what the reference computes. -/
theorem algebraic : Cert.algebraic_KernelIdeal_ReferenceIdeal := fun m ρ m' ρ' _ hm =>
  ⟨Cert.AllToAll.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.AllToAll.outAt_block m ρ _ _ (fun c => (hm c).1) (fun c => (hm c).2) c), (h.1 c).2⟩)
      (Cert.AllToAll.run_main (F := Ideal) m ρ),
    (θ_run Cert.ReferenceIdeal.defs _ _).mono (fun _ h => ⟨(h 0).1.trans (Cert.AllToAll.reference_value _ _), (h 0).2⟩)
      (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
